-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2x512 : Shape := ⟨2, ![2, 512]⟩
abbrev S32x2x512 : Shape := ⟨3, ![32, 2, 512]⟩
abbrev S32 : Shape := ⟨1, ![32]⟩
abbrev S_ : Shape := ⟨0, ![]⟩
abbrev S512 : Shape := ⟨1, ![512]⟩
abbrev S1x512 : Shape := ⟨2, ![1, 512]⟩
abbrev S1x1x512 : Shape := ⟨3, ![1, 1, 512]⟩
abbrev S1 : Shape := ⟨1, ![1]⟩
abbrev S1x2x512 : Shape := ⟨3, ![1, 2, 512]⟩
abbrev S32x1x512 : Shape := ⟨3, ![32, 1, 512]⟩
abbrev S32x512 : Shape := ⟨2, ![32, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S2x512, .f32⟩
  | .local _ .vmem, ⟨0, _⟩ => ⟨S1024x512, .f32⟩
  | .local _ .vmem, ⟨1, _⟩ => ⟨S2x512, .f32⟩
  | .local _ .vmem, ⟨2, _⟩ => ⟨S32x2x512, .f32⟩
  | .local _ .vmem, ⟨3, _⟩ => ⟨S2x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_dev32 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_137 : BitVec 32 := 1#32
  let v154 : BitVec 32 := Scalar.addi v2 c1_i32_137
  let c32_i32_138 : BitVec 32 := 32#32
  let v155 : BitVec 32 := Scalar.remsi v154 c32_i32_138
  let c1_i32_142 : BitVec 32 := 1#32
  let v156 : BitVec 32 := Scalar.muli v155 c1_i32_142
  let v157 : BitVec 32 := Scalar.addi c0_i32_143 v156
  v157.toNat
def k0_dev33 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_146 : BitVec 32 := 2#32
  let v164 : BitVec 32 := Scalar.addi v2 c2_i32_146
  let c32_i32_147 : BitVec 32 := 32#32
  let v165 : BitVec 32 := Scalar.remsi v164 c32_i32_147
  let c1_i32_151 : BitVec 32 := 1#32
  let v166 : BitVec 32 := Scalar.muli v165 c1_i32_151
  let v167 : BitVec 32 := Scalar.addi c0_i32_152 v166
  v167.toNat
def k0_dev34 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_155 : BitVec 32 := 3#32
  let v174 : BitVec 32 := Scalar.addi v2 c3_i32_155
  let c32_i32_156 : BitVec 32 := 32#32
  let v175 : BitVec 32 := Scalar.remsi v174 c32_i32_156
  let c1_i32_160 : BitVec 32 := 1#32
  let v176 : BitVec 32 := Scalar.muli v175 c1_i32_160
  let v177 : BitVec 32 := Scalar.addi c0_i32_161 v176
  v177.toNat
def k0_dev35 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_164 : BitVec 32 := 4#32
  let v184 : BitVec 32 := Scalar.addi v2 c4_i32_164
  let c32_i32_165 : BitVec 32 := 32#32
  let v185 : BitVec 32 := Scalar.remsi v184 c32_i32_165
  let c1_i32_169 : BitVec 32 := 1#32
  let v186 : BitVec 32 := Scalar.muli v185 c1_i32_169
  let v187 : BitVec 32 := Scalar.addi c0_i32_170 v186
  v187.toNat
def k0_dev36 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_173 : BitVec 32 := 5#32
  let v194 : BitVec 32 := Scalar.addi v2 c5_i32_173
  let c32_i32_174 : BitVec 32 := 32#32
  let v195 : BitVec 32 := Scalar.remsi v194 c32_i32_174
  let c1_i32_178 : BitVec 32 := 1#32
  let v196 : BitVec 32 := Scalar.muli v195 c1_i32_178
  let v197 : BitVec 32 := Scalar.addi c0_i32_179 v196
  v197.toNat
def k0_dev37 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_182 : BitVec 32 := 6#32
  let v204 : BitVec 32 := Scalar.addi v2 c6_i32_182
  let c32_i32_183 : BitVec 32 := 32#32
  let v205 : BitVec 32 := Scalar.remsi v204 c32_i32_183
  let c1_i32_187 : BitVec 32 := 1#32
  let v206 : BitVec 32 := Scalar.muli v205 c1_i32_187
  let v207 : BitVec 32 := Scalar.addi c0_i32_188 v206
  v207.toNat
def k0_dev38 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_191 : BitVec 32 := 7#32
  let v214 : BitVec 32 := Scalar.addi v2 c7_i32_191
  let c32_i32_192 : BitVec 32 := 32#32
  let v215 : BitVec 32 := Scalar.remsi v214 c32_i32_192
  let c1_i32_196 : BitVec 32 := 1#32
  let v216 : BitVec 32 := Scalar.muli v215 c1_i32_196
  let v217 : BitVec 32 := Scalar.addi c0_i32_197 v216
  v217.toNat
def k0_dev39 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_200 : BitVec 32 := 8#32
  let v224 : BitVec 32 := Scalar.addi v2 c8_i32_200
  let c32_i32_201 : BitVec 32 := 32#32
  let v225 : BitVec 32 := Scalar.remsi v224 c32_i32_201
  let c1_i32_205 : BitVec 32 := 1#32
  let v226 : BitVec 32 := Scalar.muli v225 c1_i32_205
  let v227 : BitVec 32 := Scalar.addi c0_i32_206 v226
  v227.toNat
def k0_dev40 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_209 : BitVec 32 := 9#32
  let v234 : BitVec 32 := Scalar.addi v2 c9_i32_209
  let c32_i32_210 : BitVec 32 := 32#32
  let v235 : BitVec 32 := Scalar.remsi v234 c32_i32_210
  let c1_i32_214 : BitVec 32 := 1#32
  let v236 : BitVec 32 := Scalar.muli v235 c1_i32_214
  let v237 : BitVec 32 := Scalar.addi c0_i32_215 v236
  v237.toNat
def k0_dev41 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_218 : BitVec 32 := 10#32
  let v244 : BitVec 32 := Scalar.addi v2 c10_i32_218
  let c32_i32_219 : BitVec 32 := 32#32
  let v245 : BitVec 32 := Scalar.remsi v244 c32_i32_219
  let c1_i32_223 : BitVec 32 := 1#32
  let v246 : BitVec 32 := Scalar.muli v245 c1_i32_223
  let v247 : BitVec 32 := Scalar.addi c0_i32_224 v246
  v247.toNat
def k0_dev42 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_227 : BitVec 32 := 11#32
  let v254 : BitVec 32 := Scalar.addi v2 c11_i32_227
  let c32_i32_228 : BitVec 32 := 32#32
  let v255 : BitVec 32 := Scalar.remsi v254 c32_i32_228
  let c1_i32_232 : BitVec 32 := 1#32
  let v256 : BitVec 32 := Scalar.muli v255 c1_i32_232
  let v257 : BitVec 32 := Scalar.addi c0_i32_233 v256
  v257.toNat
def k0_dev43 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_236 : BitVec 32 := 12#32
  let v264 : BitVec 32 := Scalar.addi v2 c12_i32_236
  let c32_i32_237 : BitVec 32 := 32#32
  let v265 : BitVec 32 := Scalar.remsi v264 c32_i32_237
  let c1_i32_241 : BitVec 32 := 1#32
  let v266 : BitVec 32 := Scalar.muli v265 c1_i32_241
  let v267 : BitVec 32 := Scalar.addi c0_i32_242 v266
  v267.toNat
def k0_dev44 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_245 : BitVec 32 := 13#32
  let v274 : BitVec 32 := Scalar.addi v2 c13_i32_245
  let c32_i32_246 : BitVec 32 := 32#32
  let v275 : BitVec 32 := Scalar.remsi v274 c32_i32_246
  let c1_i32_250 : BitVec 32 := 1#32
  let v276 : BitVec 32 := Scalar.muli v275 c1_i32_250
  let v277 : BitVec 32 := Scalar.addi c0_i32_251 v276
  v277.toNat
def k0_dev45 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_254 : BitVec 32 := 14#32
  let v284 : BitVec 32 := Scalar.addi v2 c14_i32_254
  let c32_i32_255 : BitVec 32 := 32#32
  let v285 : BitVec 32 := Scalar.remsi v284 c32_i32_255
  let c1_i32_259 : BitVec 32 := 1#32
  let v286 : BitVec 32 := Scalar.muli v285 c1_i32_259
  let v287 : BitVec 32 := Scalar.addi c0_i32_260 v286
  v287.toNat
def k0_dev46 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_263 : BitVec 32 := 15#32
  let v294 : BitVec 32 := Scalar.addi v2 c15_i32_263
  let c32_i32_264 : BitVec 32 := 32#32
  let v295 : BitVec 32 := Scalar.remsi v294 c32_i32_264
  let c1_i32_268 : BitVec 32 := 1#32
  let v296 : BitVec 32 := Scalar.muli v295 c1_i32_268
  let v297 : BitVec 32 := Scalar.addi c0_i32_269 v296
  v297.toNat
def k0_dev47 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_272 : BitVec 32 := 16#32
  let v304 : BitVec 32 := Scalar.addi v2 c16_i32_272
  let c32_i32_273 : BitVec 32 := 32#32
  let v305 : BitVec 32 := Scalar.remsi v304 c32_i32_273
  let c1_i32_277 : BitVec 32 := 1#32
  let v306 : BitVec 32 := Scalar.muli v305 c1_i32_277
  let v307 : BitVec 32 := Scalar.addi c0_i32_278 v306
  v307.toNat
def k0_dev48 (d0 : Dev nD) : Nat :=
  let c0_i32_287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_281 : BitVec 32 := 17#32
  let v314 : BitVec 32 := Scalar.addi v2 c17_i32_281
  let c32_i32_282 : BitVec 32 := 32#32
  let v315 : BitVec 32 := Scalar.remsi v314 c32_i32_282
  let c1_i32_286 : BitVec 32 := 1#32
  let v316 : BitVec 32 := Scalar.muli v315 c1_i32_286
  let v317 : BitVec 32 := Scalar.addi c0_i32_287 v316
  v317.toNat
def k0_dev49 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_290 : BitVec 32 := 18#32
  let v324 : BitVec 32 := Scalar.addi v2 c18_i32_290
  let c32_i32_291 : BitVec 32 := 32#32
  let v325 : BitVec 32 := Scalar.remsi v324 c32_i32_291
  let c1_i32_295 : BitVec 32 := 1#32
  let v326 : BitVec 32 := Scalar.muli v325 c1_i32_295
  let v327 : BitVec 32 := Scalar.addi c0_i32_296 v326
  v327.toNat
def k0_dev50 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_299 : BitVec 32 := 19#32
  let v334 : BitVec 32 := Scalar.addi v2 c19_i32_299
  let c32_i32_300 : BitVec 32 := 32#32
  let v335 : BitVec 32 := Scalar.remsi v334 c32_i32_300
  let c1_i32_304 : BitVec 32 := 1#32
  let v336 : BitVec 32 := Scalar.muli v335 c1_i32_304
  let v337 : BitVec 32 := Scalar.addi c0_i32_305 v336
  v337.toNat
def k0_dev51 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_308 : BitVec 32 := 20#32
  let v344 : BitVec 32 := Scalar.addi v2 c20_i32_308
  let c32_i32_309 : BitVec 32 := 32#32
  let v345 : BitVec 32 := Scalar.remsi v344 c32_i32_309
  let c1_i32_313 : BitVec 32 := 1#32
  let v346 : BitVec 32 := Scalar.muli v345 c1_i32_313
  let v347 : BitVec 32 := Scalar.addi c0_i32_314 v346
  v347.toNat
def k0_dev52 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_317 : BitVec 32 := 21#32
  let v354 : BitVec 32 := Scalar.addi v2 c21_i32_317
  let c32_i32_318 : BitVec 32 := 32#32
  let v355 : BitVec 32 := Scalar.remsi v354 c32_i32_318
  let c1_i32_322 : BitVec 32 := 1#32
  let v356 : BitVec 32 := Scalar.muli v355 c1_i32_322
  let v357 : BitVec 32 := Scalar.addi c0_i32_323 v356
  v357.toNat
def k0_dev53 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_326 : BitVec 32 := 22#32
  let v364 : BitVec 32 := Scalar.addi v2 c22_i32_326
  let c32_i32_327 : BitVec 32 := 32#32
  let v365 : BitVec 32 := Scalar.remsi v364 c32_i32_327
  let c1_i32_331 : BitVec 32 := 1#32
  let v366 : BitVec 32 := Scalar.muli v365 c1_i32_331
  let v367 : BitVec 32 := Scalar.addi c0_i32_332 v366
  v367.toNat
def k0_dev54 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_335 : BitVec 32 := 23#32
  let v374 : BitVec 32 := Scalar.addi v2 c23_i32_335
  let c32_i32_336 : BitVec 32 := 32#32
  let v375 : BitVec 32 := Scalar.remsi v374 c32_i32_336
  let c1_i32_340 : BitVec 32 := 1#32
  let v376 : BitVec 32 := Scalar.muli v375 c1_i32_340
  let v377 : BitVec 32 := Scalar.addi c0_i32_341 v376
  v377.toNat
def k0_dev55 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_344 : BitVec 32 := 24#32
  let v384 : BitVec 32 := Scalar.addi v2 c24_i32_344
  let c32_i32_345 : BitVec 32 := 32#32
  let v385 : BitVec 32 := Scalar.remsi v384 c32_i32_345
  let c1_i32_349 : BitVec 32 := 1#32
  let v386 : BitVec 32 := Scalar.muli v385 c1_i32_349
  let v387 : BitVec 32 := Scalar.addi c0_i32_350 v386
  v387.toNat
def k0_dev56 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_353 : BitVec 32 := 25#32
  let v394 : BitVec 32 := Scalar.addi v2 c25_i32_353
  let c32_i32_354 : BitVec 32 := 32#32
  let v395 : BitVec 32 := Scalar.remsi v394 c32_i32_354
  let c1_i32_358 : BitVec 32 := 1#32
  let v396 : BitVec 32 := Scalar.muli v395 c1_i32_358
  let v397 : BitVec 32 := Scalar.addi c0_i32_359 v396
  v397.toNat
def k0_dev57 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_362 : BitVec 32 := 26#32
  let v404 : BitVec 32 := Scalar.addi v2 c26_i32_362
  let c32_i32_363 : BitVec 32 := 32#32
  let v405 : BitVec 32 := Scalar.remsi v404 c32_i32_363
  let c1_i32_367 : BitVec 32 := 1#32
  let v406 : BitVec 32 := Scalar.muli v405 c1_i32_367
  let v407 : BitVec 32 := Scalar.addi c0_i32_368 v406
  v407.toNat
def k0_dev58 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_371 : BitVec 32 := 27#32
  let v414 : BitVec 32 := Scalar.addi v2 c27_i32_371
  let c32_i32_372 : BitVec 32 := 32#32
  let v415 : BitVec 32 := Scalar.remsi v414 c32_i32_372
  let c1_i32_376 : BitVec 32 := 1#32
  let v416 : BitVec 32 := Scalar.muli v415 c1_i32_376
  let v417 : BitVec 32 := Scalar.addi c0_i32_377 v416
  v417.toNat
def k0_dev59 (d0 : Dev nD) : Nat :=
  let c0_i32_386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_380 : BitVec 32 := 28#32
  let v424 : BitVec 32 := Scalar.addi v2 c28_i32_380
  let c32_i32_381 : BitVec 32 := 32#32
  let v425 : BitVec 32 := Scalar.remsi v424 c32_i32_381
  let c1_i32_385 : BitVec 32 := 1#32
  let v426 : BitVec 32 := Scalar.muli v425 c1_i32_385
  let v427 : BitVec 32 := Scalar.addi c0_i32_386 v426
  v427.toNat
def k0_dev60 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_389 : BitVec 32 := 29#32
  let v434 : BitVec 32 := Scalar.addi v2 c29_i32_389
  let c32_i32_390 : BitVec 32 := 32#32
  let v435 : BitVec 32 := Scalar.remsi v434 c32_i32_390
  let c1_i32_394 : BitVec 32 := 1#32
  let v436 : BitVec 32 := Scalar.muli v435 c1_i32_394
  let v437 : BitVec 32 := Scalar.addi c0_i32_395 v436
  v437.toNat
def k0_dev61 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_398 : BitVec 32 := 30#32
  let v444 : BitVec 32 := Scalar.addi v2 c30_i32_398
  let c32_i32_399 : BitVec 32 := 32#32
  let v445 : BitVec 32 := Scalar.remsi v444 c32_i32_399
  let c1_i32_403 : BitVec 32 := 1#32
  let v446 : BitVec 32 := Scalar.muli v445 c1_i32_403
  let v447 : BitVec 32 := Scalar.addi c0_i32_404 v446
  v447.toNat
def k0_dev62 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_407 : BitVec 32 := 31#32
  let v454 : BitVec 32 := Scalar.addi v2 c31_i32_407
  let c32_i32_408 : BitVec 32 := 32#32
  let v455 : BitVec 32 := Scalar.remsi v454 c32_i32_408
  let c1_i32_412 : BitVec 32 := 1#32
  let v456 : BitVec 32 := Scalar.muli v455 c1_i32_412
  let v457 : BitVec 32 := Scalar.addi c0_i32_413 v456
  v457.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x512 : Shape := ⟨2, ![32768, 512]⟩
abbrev S_ : Shape := ⟨0, ![]⟩
abbrev S512 : Shape := ⟨1, ![512]⟩
abbrev S1x512 : Shape := ⟨2, ![1, 512]⟩
abbrev S2x512 : Shape := ⟨2, ![2, 512]⟩

abbrev nBuf : Space → Nat
  | .hbm => 12
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .i32⟩
  | .hbm, ⟨2, _⟩ => ⟨S_, .f32⟩
  | .hbm, ⟨3, _⟩ => ⟨S_, .i32⟩
  | .hbm, ⟨4, _⟩ => ⟨S512, .f32⟩
  | .hbm, ⟨5, _⟩ => ⟨S512, .i32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S2x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.KernelIdeal.Cells.lean ====
/-
# The exchange's cells, buffers and contents

Thirty-two devices each reduce their own 1024×512 block to two rows (the column maxima and the first row that attains each,
counted over the whole array), tell every other device through its barrier semaphore that they are ready, wait for the other
thirty-one, send the two rows to every other device — into landing slot `k` of the device `k` places further on — and combine
the thirty-two pairs of rows. This file names the devices `k` places on and back, the buffers, the semaphores' cells, and
what every buffer holds at the moments the proof speaks of.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds ghost state: a duty is named by the device that pays it. -/
abbrev UB : Type := URounds (GSem nD τ sig) (Dev nD)
/-- Beside it the pipeline library's own copy. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## Devices `k` places on and back -/

set_option backward.proofsInPublic true in
/-- The device `k` places after `c` around the ring. -/
def sh (c : Dev nD) (k : ℕ) : Dev nD := ⟨(c.val + k) % 32, Nat.mod_lt _ (by decide)⟩
set_option backward.proofsInPublic true in
/-- The device `k` places before `c` around the ring. -/
def bk (c : Dev nD) (k : ℕ) : Dev nD := ⟨(c.val + 32 - k) % 32, Nat.mod_lt _ (by decide)⟩
set_option backward.proofsInPublic true in
/-- How many places after `c` the device `d` comes. -/
def dist (c d : Dev nD) : Fin 32 := ⟨(d.val + 32 - c.val) % 32, Nat.mod_lt _ (by decide)⟩
set_option backward.proofsInPublic true in
/-- The places left around the ring after `k`. -/
def neg (k : ℕ) : Fin 32 := ⟨(32 - k) % 32, Nat.mod_lt _ (by decide)⟩

theorem sh_bk (c : Dev nD) {k : ℕ} (hk : k < 32) : sh (bk c k) k = c :=
  Fin.ext (by have : c.val < 32 := c.isLt; simp only [sh, bk]; omega)
theorem bk_sh (c : Dev nD) {k : ℕ} (hk : k < 32) : bk (sh c k) k = c :=
  Fin.ext (by have : c.val < 32 := c.isLt; simp only [sh, bk]; omega)
theorem bk_zero (c : Dev nD) : bk c 0 = c := Fin.ext (by have : c.val < 32 := c.isLt; simp only [bk]; omega)
theorem dist_sh (c : Dev nD) {k : ℕ} (hk : k < 32) : dist c (sh c k) = ⟨k, hk⟩ :=
  Fin.ext (by have : c.val < 32 := c.isLt; simp only [sh, dist]; omega)
theorem sh_dist (c d : Dev nD) : sh c (dist c d).val = d :=
  Fin.ext (by have : c.val < 32 := c.isLt; have : d.val < 32 := d.isLt; simp only [sh, dist]; omega)
theorem dist_back (c : Dev nD) {k : ℕ} (hk : k < 32) : dist (sh c k) c = neg k :=
  Fin.ext (by have : c.val < 32 := c.isLt; simp only [sh, dist, neg]; omega)
theorem sh_ne (c : Dev nD) {k : ℕ} (h1 : 1 ≤ k) (hk : k < 32) : sh c k ≠ c := fun h => by
  have h' : (c.val + k) % 32 = c.val := congrArg Fin.val h
  have : c.val < 32 := c.isLt
  omega
theorem sh_inj (c : Dev nD) {j k : Fin 32} (h : sh c j.val = sh c k.val) : j = k := by
  have h' : (c.val + j.val) % 32 = (c.val + k.val) % 32 := congrArg Fin.val h
  have : c.val < 32 := c.isLt
  exact Fin.ext (by omega)

/-- Being `k` places on is a permutation of the devices. -/
def ring (k : Fin 32) : Dev nD ≃ Dev nD :=
  ⟨fun c => sh c k.val, fun c => bk c k.val, fun c => bk_sh c k.isLt, fun c => sh_bk c k.isLt⟩

/-! ## Buffers, windows and cells -/

abbrev xM : Memref sig .tc .vmem S1024x512 .f32 := Memref.whole cc0_stg0_0
abbrev oM : Memref sig .tc .vmem S2x512 .f32 := Memref.whole cc0_stg1_0
abbrev cM : Memref sig .tc .vmem S32x2x512 .f32 := Memref.whole cc0_scratch0
abbrev bM : Memref sig .tc .vmem S2x512 .f32 := Memref.whole cc0_scratch1

theorem inb_slot {k : ℕ} (hk : k < 32) : ∀ a, (![k, 0, 0] : Fin 3 → Nat) a + S1x2x512.size a ≤ S32x2x512.size a := by
  intro a; fin_cases a
  · show k + 1 ≤ 32; omega
  · show 0 + 2 ≤ 2; omega
  · show 0 + 512 ≤ 512; omega
theorem inb_sem {k : ℕ} (hk : k < 32) : ∀ a, (![k] : Fin 1 → Nat) a + S1.size a ≤ S32.size a := by
  intro a; fin_cases a; show k + 1 ≤ 32; omega

/-- Landing slot `k` of the communication buffer, as the kernel names it. -/
abbrev slotM (k : Fin 32) : Memref sig .tc .vmem S2x512 .f32 :=
  (cM.slice (Rect.unit (s := S32x2x512) ![k.val, 0, 0] S1x2x512.size (inb_slot k.isLt)) (fun _ => rfl)).squeeze S2x512 squeezes_S1x2x512_S2x512

/-- The runtime's barrier semaphore of collective id 0. -/
abbrev barS : Sem sig := (SemArray.scalar (sig.barrier 0 rfl) : Sems sig S_).sem
/-- Send semaphore `k` and receive semaphore `k`, as the kernel names them. -/
abbrev sendS (k : Fin 32) : DmaSem sig :=
  ((cc0_scratch2.slice (Rect.unit (s := S32) ![k.val] S1.size (inb_sem k.isLt))).squeeze S_ squeezes_S1_S_).sem
abbrev recvS (k : Fin 32) : DmaSem sig :=
  ((cc0_scratch3.slice (Rect.unit (s := S32) ![k.val] S1.size (inb_sem k.isLt))).squeeze S_ squeezes_S1_S_).sem

theorem sendS_val : ∀ k : Fin 32, (sendS k).val = 2 + k.val := by decide
theorem recvS_val : ∀ k : Fin 32, (recvS k).val = 34 + k.val := by decide

abbrev barCell (c : Dev nD) : GSem nD τ sig := ((c : Thread nD τ), .reg barS)
abbrev sendCell (c : Dev nD) (k : Fin 32) : GSem nD τ sig := ((c : Thread nD τ), .dma (sendS k))
abbrev recvCell (c : Dev nD) (k : Fin 32) : GSem nD τ sig := ((c : Thread nD τ), .dma (recvS k))

/-- What one transfer of two rows credits. -/
abbrev N : ℕ := (slotM 0).view.dmaCredit
theorem N_pos : 0 < N := View.dmaCredit_pos _ (by decide)
theorem credit_slot (k : Fin 32) : (slotM k).view.dmaCredit = N := rfl
theorem credit_rows : bM.view.dmaCredit = N := by decide

end Cert.KernelIdeal.Exchange

end
-- ==== Proof.KernelIdeal.Contents.lean ====
/-
# What the buffers hold

The two rows a device computes from its block, the two rows in every landing slot once the exchange is over, the result; the
places of the landing buffer that make up one slot; and what the kernel's stores and transfers leave at those places.
-/
module

public import proofs.«01_k».proof.Proof.KernelIdeal.Cells
public import Idealize.ShloMosaic.Lib.ValueLayout

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The contents -/

/-- Two rows of 512 stacked. -/
def rows2 (a b : FVec F S512 .f32) : Vec F S2x512 .f32 := fun i => if (i 0).val = 0 then a (ix1 (i 1)) else b (ix1 (i 1))

/-- The device's own block, as the pipeline brings it to the kernel. -/
def xstg (c : Dev nD) : (cc0_stg0_0 : Ref sig .tc).ty.Contents (Elt F) :=
  (win0_0.blk (0 : Fin 1)).view.read (Elt F) ((s₀ m ρ).mem ((c : Thread nD τ).loc main_arg0))

/-- The device's number as the kernel computes it. -/
def vdev (c : Dev nD) : BitVec 32 := Scalar.remsi (Scalar.divsi (Dev.word c) 1#32) 32#32

/-- The rows device `c` sends: the maxima of its columns, and the first row of each column that attains it. -/
def sendAt (c : Dev nD) : (cc0_scratch1 : Ref sig .tc).ty.Contents (Elt F) :=
  rows2 (k0_pay2 (xstg m ρ c)) (k0_pay3 (vdev c) (xstg m ρ c))

/-- The landing buffer after the exchange: slot `k` holds the rows of the device `k` places back. -/
def commAt (c : Dev nD) : (cc0_scratch0 : Ref sig .tc).ty.Contents (Elt F) :=
  fun i => sendAt m ρ (bk c (i 0).val) (ix2 (i 1) (i 2))

/-- The kernel's result on device `c`: the rows of all devices combined. -/
def outAt (c : Dev nD) : (cc0_stg1_0 : Ref sig .tc).ty.Contents (Elt F) :=
  rows2 (k0_pay9 (commAt m ρ c)) (k0_pay10 (commAt m ρ c))

/-! ## The places of a landing slot -/

/-- Slot `k`'s row `r`, column `j` is the landing buffer's place `(k, r, j)`. -/
theorem slot_emb (k : Fin 32) (i : S2x512.Idx) : (slotM k).view.emb i = ix3 k (i 0) (i 1) := by
  have h : ((slotM k).view.emb i : S32x2x512.Idx)
      = (Rect.unit (s := S32x2x512) ![k.val, 0, 0] S1x2x512.size (inb_slot k.isLt)).emb
          (Shape.reshapeEquiv (s := S1x2x512) (s' := S2x512) squeezes_S1x2x512_S2x512.numel_eq i) := rfl
  have h' : Shape.reshapeEquiv (s := S1x2x512) (s' := S2x512) squeezes_S1x2x512_S2x512.numel_eq i = ix3 (0 : Fin 1) (i 0) (i 1) := by
    conv_lhs => rw [eq_ix2 i]
    exact reshapeEquiv_ix2_1ab _ _ _
  rw [h, h']
  funext a
  match a with
  | ⟨0, _⟩ => exact Fin.ext (by show k.val + 1 * 0 = k.val; omega)
  | ⟨1, _⟩ => exact Fin.ext (by show 0 + 1 * (i 0).val = (i 0).val; omega)
  | ⟨2, _⟩ => exact Fin.ext (by show 0 + 1 * (i 1).val = (i 1).val; omega)

/-- A place of the landing buffer lies in slot `k` when its first coordinate is `k`. -/
theorem mem_slot (k : Fin 32) (i : S32x2x512.Idx) : i ∈ (slotM k).view.set ↔ i 0 = k := by
  constructor
  · intro h
    obtain ⟨x, -, rfl⟩ := Finset.mem_map.mp h
    rw [slot_emb]
  · intro h
    refine Finset.mem_map.mpr ⟨ix2 (i 1) (i 2), Finset.mem_univ _, ?_⟩
    rw [slot_emb, ← h]; exact (eq_ix3 i).symm

/-- The places of slot `k`. -/
def slotSet (k : Fin 32) : Finset S32x2x512.Idx := (slotM k).view.set

/-- The 32 slots make up the landing buffer. -/
theorem slots_univ : (Finset.univ : Finset (Fin 32)).biUnion slotSet = Finset.univ :=
  Finset.eq_univ_of_forall fun i => Finset.mem_biUnion.mpr ⟨i 0, Finset.mem_univ _, (mem_slot _ i).mpr rfl⟩

/-- Different slots share no place. -/
theorem slots_disjoint (k k' : Fin 32) (h : k ≠ k') : Disjoint (slotM k).view.set (slotM k').view.set :=
  Finset.disjoint_left.mpr fun i hi hi' => h (((mem_slot k i).mp hi).symm.trans ((mem_slot k' i).mp hi'))

/-! ## Assertions over the buffers -/

/-- Device `c` owns landing slot `k`, holding `f` there. -/
def slotPts (c : Dev nD) (k : Fin 32) (f : Buf (Elt F) ((c : Thread nD τ).loc cc0_scratch0)) : sProp 𝕄 :=
  (slotM k).view.loc (c : Thread nD τ) ↦[(slotM k).view.set]{fullShare} f
/-- Device `c` holds the share `q` of its send buffer, holding `f`. -/
def rowsPts (c : Dev nD) (q : PosShare TreeShare) (f : Buf (Elt F) ((c : Thread nD τ).loc cc0_scratch1)) : sProp 𝕄 :=
  bM.view.loc (c : Thread nD τ) ↦[bM.view.set]{q} f

omit [FloatOps F] in
instance slotPts_storable (c : Dev nD) (k) (f) : BI.Storable (upEmb : UEmb _ 𝕄) (slotPts (F := F) c k f) := by unfold slotPts; infer_instance
omit [FloatOps F] in
instance rowsPts_storable (c : Dev nD) (q) (f) : BI.Storable (upEmb : UEmb _ 𝕄) (rowsPts (F := F) c q f) := by unfold rowsPts; infer_instance

omit [FloatOps F] in
/-- Owning the landing buffer is owning its 32 slots. -/
theorem slots_eq (c : Dev nD) (f : Buf (Elt F) ((c : Thread nD τ).loc cc0_scratch0)) :
    (((c : Thread nD τ).loc cc0_scratch0) ↦{fullShare} f : sProp 𝕄) = bigSep Finset.univ (fun k => slotPts c k f) := by
  have h := pointsTo_biUnion (Ix := Unit) (Name := ℕ) (U := UU) (Lvl := ℕ) (ℓ := (c : Thread nD τ).loc cc0_scratch0) (q := fullShare) (f := f)
    (Finset.univ : Finset (Fin 32)) slotSet (fun k _ k' _ h => slots_disjoint k k' h)
  rw [slots_univ] at h
  exact h

omit [FloatOps F] in
/-- What a slot holds matters at the slot's places only. -/
theorem slotPts_congr (c : Dev nD) (k : Fin 32) {f g : Buf (Elt F) ((c : Thread nD τ).loc cc0_scratch0)}
    (h : ∀ (r : Fin 2) (j : Fin 512), f (ix3 k r j) = g (ix3 k r j)) : slotPts (F := F) c k f = slotPts c k g := by
  unfold slotPts
  refine pointsTo_congr fun i hi => ?_
  have hk := (mem_slot k i).mp hi
  rw [eq_ix3 i, hk]; exact h _ _

omit [FloatOps F] in
theorem rowsPts_eq (c : Dev nD) (q) (f : Buf (Elt F) ((c : Thread nD τ).loc cc0_scratch1)) :
    rowsPts (F := F) c q f = (((c : Thread nD τ).loc cc0_scratch1) ↦{q} f : sProp 𝕄) := by
  unfold rowsPts; rw [View.set_whole]

/-! ## What the stores and the transfers leave -/

/-- A transfer of device `c`'s rows into slot `k` of the device `k` places on leaves there what the exchange is to leave. -/
theorem landed_eq (c : Dev nD) (k : Fin 32) (fd : Buf (Elt F) ((sh c k.val : Thread nD τ).loc cc0_scratch0)) :
    slotPts (F := F) (sh c k.val) k ((slotM k).view.write (Elt F) fd (bM.view.read (Elt F) (sendAt m ρ c)) Finset.univ)
      = slotPts (sh c k.val) k (commAt m ρ (sh c k.val)) := by
  refine slotPts_congr _ _ fun r j => ?_
  have he : (slotM k).view.emb (ix2 r j) = ix3 k r j := slot_emb k (ix2 r j)
  have hw := View.write_emb_of_mem (v := (slotM k).view) (Val := Elt F) fd (bM.view.read (Elt F) (sendAt m ρ c))
    (M := Finset.univ) (x := ix2 r j) (Finset.mem_univ _)
  rw [he] at hw
  rw [hw]
  show sendAt m ρ c (ix2 r j) = sendAt m ρ (bk (sh c k.val) k.val) (ix2 r j)
  rw [bk_sh c k.isLt]

abbrev rX : Rect S1024x512 := Rect.unit (s := S1024x512) ![0, 0] S1024x512.size inb_S1024x512_S1024x512_0_0
abbrev rC : Rect S32x2x512 := Rect.unit (s := S32x2x512) ![0, 0, 0] S32x2x512.size inb_S32x2x512_S32x2x512_0_0_0
abbrev rR0 : Rect S2x512 := Rect.unit (s := S2x512) ![0, 0] S1x512.size inb_S2x512_S1x512_0_0
abbrev rR1 : Rect S2x512 := Rect.unit (s := S2x512) ![1, 0] S1x512.size inb_S2x512_S1x512_1_0
abbrev rS0 : Rect S32x2x512 := Rect.unit (s := S32x2x512) ![0, 0, 0] S1x1x512.size inb_S32x2x512_S1x1x512_0_0_0
abbrev rS1 : Rect S32x2x512 := Rect.unit (s := S32x2x512) ![0, 1, 0] S1x1x512.size inb_S32x2x512_S1x1x512_0_1_0

theorem hz2 : (![0, 0] : Fin 2 → Nat) = fun _ => 0 := funext fun a => by fin_cases a <;> rfl
theorem hz3 : (![0, 0, 0] : Fin 3 → Nat) = fun _ => 0 := funext fun a => by fin_cases a <;> rfl

omit [FloatOps F] in
/-- Loading the whole block reads it. -/
theorem read_x (f : (cc0_stg0_0 : Ref sig .tc).ty.Contents (Elt F)) : xM.view.readAt (Elt F) rX.toLoadRect f = f :=
  Memref.readAt_unit_zero (Elt F) cc0_stg0_0 hz2 _ f
omit [FloatOps F] in
/-- Loading the whole landing buffer reads it. -/
theorem read_comm (f : (cc0_scratch0 : Ref sig .tc).ty.Contents (Elt F)) : cM.view.readAt (Elt F) rC.toLoadRect f = f :=
  Memref.readAt_unit_zero (Elt F) cc0_scratch0 hz3 _ f

theorem rows2_zero (a b : FVec F S512 .f32) (j : Fin 512) : rows2 a b (ix2 0 j) = a (ix1 j) := rfl
theorem rows2_one (a b : FVec F S512 .f32) (j : Fin 512) : rows2 a b (ix2 1 j) = b (ix1 j) := rfl

/-- Two rows stacked are known by their rows. -/
theorem eq_rows2 (g : Vec F S2x512 .f32) (a b : FVec F S512 .f32) (h0 : ∀ j, g (ix2 0 j) = a (ix1 j)) (h1 : ∀ j, g (ix2 1 j) = b (ix1 j)) :
    g = rows2 a b := by
  funext i
  rw [eq_ix2 i]
  generalize i 1 = j
  generalize i 0 = r
  match r with
  | ⟨0, _⟩ => exact h0 j
  | ⟨1, _⟩ => exact h1 j

omit [FloatOps F] in
/-- A store over a whole window, read at the place of the window's index `x`. -/
theorem write_at {s : Shape} (v : View sig .tc .vmem s .f32) (f : v.ty.Contents (Elt F)) (w : s.Idx → Elt F .f32) (x : s.Idx) (i : v.ty.Idx)
    (h : v.emb x = i) : v.write (Elt F) f w Finset.univ i = cast (congrArg (Elt F) v.elt_eq.symm) (w x) := by
  rw [← h]; exact View.write_emb_of_mem _ _ (Finset.mem_univ x)

omit [FloatOps F] in
/-- A store leaves every place outside its window alone. -/
theorem write_off {s : Shape} (v : View sig .tc .vmem s .f32) (f : v.ty.Contents (Elt F)) (w : s.Idx → Elt F .f32) (i : v.ty.Idx)
    (h : ∀ x, v.emb x ≠ i) : v.write (Elt F) f w Finset.univ i = f i :=
  View.write_of_not_mem _ _ _ fun hi => by obtain ⟨x, -, hx⟩ := Finset.mem_map.mp hi; exact h x hx

theorem rR0_emb (j : Fin 512) : rR0.emb (ix2 (0 : Fin 1) j) = ix2 (0 : Fin 2) j := by
  funext a
  match a with
  | ⟨0, _⟩ => rfl
  | ⟨1, _⟩ => exact Fin.ext (by show 0 + 1 * j.val = j.val; omega)
theorem rR1_emb (j : Fin 512) : rR1.emb (ix2 (0 : Fin 1) j) = ix2 (1 : Fin 2) j := by
  funext a
  match a with
  | ⟨0, _⟩ => rfl
  | ⟨1, _⟩ => exact Fin.ext (by show 0 + 1 * j.val = j.val; omega)
theorem rR1_emb_ne (x) (j : Fin 512) : rR1.emb x ≠ ix2 (0 : Fin 2) j := fun h => by
  have h' := congrArg (fun i : S2x512.Idx => (i 0).val) h
  simp only [Rect.emb_apply] at h'
  change 1 + 1 * _ = 0 at h'
  omega

/-- Storing one row and then the other into the send buffer leaves the two rows stacked. -/
theorem store_send (f : (cc0_scratch1 : Ref sig .tc).ty.Contents (Elt F)) (a b : FVec F S512 .f32) :
    (bM.access rR1 : View sig .tc _ _ _).write (Elt F) ((bM.access rR0 : View sig .tc _ _ _).write (Elt F) f
        (shapeCast S1x512 a shapeCasts_S512_S1x512) Finset.univ) (shapeCast S1x512 b shapeCasts_S512_S1x512) Finset.univ = rows2 a b := by
  refine eq_rows2 _ a b (fun j => ?_) (fun j => ?_)
  · rw [write_off (bM.access rR1) _ _ _ (fun x => rR1_emb_ne x j)]
    exact (write_at (bM.access rR0) _ _ (ix2 0 j) _ (rR0_emb j)).trans (shapeCast_a_1a_apply a _ 0 j)
  · exact (write_at (bM.access rR1) _ _ (ix2 0 j) _ (rR1_emb j)).trans (shapeCast_a_1a_apply b _ 0 j)

/-- The same of the result's buffer. -/
theorem store_out (f : (cc0_stg1_0 : Ref sig .tc).ty.Contents (Elt F)) (a b : FVec F S512 .f32) :
    (oM.access rR1 : View sig .tc _ _ _).write (Elt F) ((oM.access rR0 : View sig .tc _ _ _).write (Elt F) f
        (shapeCast S1x512 a shapeCasts_S512_S1x512) Finset.univ) (shapeCast S1x512 b shapeCasts_S512_S1x512) Finset.univ = rows2 a b := by
  refine eq_rows2 _ a b (fun j => ?_) (fun j => ?_)
  · rw [write_off (oM.access rR1) _ _ _ (fun x => rR1_emb_ne x j)]
    exact (write_at (oM.access rR0) _ _ (ix2 0 j) _ (rR0_emb j)).trans (shapeCast_a_1a_apply a _ 0 j)
  · exact (write_at (oM.access rR1) _ _ (ix2 0 j) _ (rR1_emb j)).trans (shapeCast_a_1a_apply b _ 0 j)

theorem rS0_emb (j : Fin 512) : rS0.emb (ix3 (0 : Fin 1) (0 : Fin 1) j) = ix3 (0 : Fin 32) (0 : Fin 2) j := by
  funext a
  match a with
  | ⟨0, _⟩ => rfl
  | ⟨1, _⟩ => rfl
  | ⟨2, _⟩ => exact Fin.ext (by show 0 + 1 * j.val = j.val; omega)
theorem rS1_emb (j : Fin 512) : rS1.emb (ix3 (0 : Fin 1) (0 : Fin 1) j) = ix3 (0 : Fin 32) (1 : Fin 2) j := by
  funext a
  match a with
  | ⟨0, _⟩ => rfl
  | ⟨1, _⟩ => rfl
  | ⟨2, _⟩ => exact Fin.ext (by show 0 + 1 * j.val = j.val; omega)
theorem rS1_emb_ne (x) (j : Fin 512) : rS1.emb x ≠ ix3 (0 : Fin 32) (0 : Fin 2) j := fun h => by
  have h' := congrArg (fun i : S32x2x512.Idx => (i 1).val) h
  simp only [Rect.emb_apply] at h'
  change 1 + 1 * _ = 0 at h'
  omega

/-- A row of 512 viewed 1×1×512 reads the row. -/
theorem cast_row (a : FVec F S512 .f32) (j : Fin 512) :
    shapeCast S1x1x512 a shapeCasts_S512_S1x1x512 (ix3 (0 : Fin 1) (0 : Fin 1) j) = a (ix1 j) :=
  shapeCast_apply a _ _ _ (by
    rw [Shape.rowMajor_val_three, Shape.rowMajor_val_one]
    show j.val = (0 * 1 + 0) * 512 + j.val
    omega)

/-- Both windows of a slot-0 store lie in slot 0. -/
theorem store_slot0_sub0 : ((cM.access rS0 : View sig .tc _ _ _).setOn Finset.univ : Finset S32x2x512.Idx) ⊆ (slotM 0).view.set := by
  intro i hi
  obtain ⟨x, -, rfl⟩ := Finset.mem_map.mp hi
  refine (mem_slot 0 _).mpr (Fin.ext ?_)
  have hx : (x 0).val < 1 := (x 0).isLt
  show 0 + 1 * (x 0).val = 0
  omega
theorem store_slot0_sub1 : ((cM.access rS1 : View sig .tc _ _ _).setOn Finset.univ : Finset S32x2x512.Idx) ⊆ (slotM 0).view.set := by
  intro i hi
  obtain ⟨x, -, rfl⟩ := Finset.mem_map.mp hi
  refine (mem_slot 0 _).mpr (Fin.ext ?_)
  have hx : (x 0).val < 1 := (x 0).isLt
  show 0 + 1 * (x 0).val = 0
  omega

/-- Two rows stored one after the other into slot 0 are there, stacked. -/
theorem store_slot0_at (f : (cc0_scratch0 : Ref sig .tc).ty.Contents (Elt F)) (a b : FVec F S512 .f32) (r : Fin 2) (j : Fin 512) :
    (cM.access rS1 : View sig .tc _ _ _).write (Elt F) ((cM.access rS0 : View sig .tc _ _ _).write (Elt F) f
        (shapeCast S1x1x512 a shapeCasts_S512_S1x1x512) Finset.univ) (shapeCast S1x1x512 b shapeCasts_S512_S1x1x512) Finset.univ (ix3 0 r j)
      = rows2 a b (ix2 r j) := by
  rcases (show r = 0 ∨ r = 1 by omega) with rfl | rfl
  · rw [rows2_zero]
    refine (write_off (cM.access rS1) _ _ _ (fun x => rS1_emb_ne x j)).trans ?_
    exact (write_at (cM.access rS0) _ _ (ix3 0 0 j) _ (rS0_emb j)).trans (cast_row a j)
  · rw [rows2_one]
    exact (write_at (cM.access rS1) _ _ (ix3 0 0 j) _ (rS1_emb j)).trans (cast_row b j)

/-- A device's two stores into its own slot 0 leave there what the exchange is to leave. -/
theorem store_slot0 (c : Dev nD) (f : Buf (Elt F) ((c : Thread nD τ).loc cc0_scratch0)) :
    slotPts (F := F) c 0 ((cM.access rS1 : View sig .tc _ _ _).write (Elt F) ((cM.access rS0 : View sig .tc _ _ _).write (Elt F) f
        (k0_pay6 (xstg m ρ c)) Finset.univ) (k0_pay7 (k0_pay3 (vdev c) (xstg m ρ c))) Finset.univ)
      = slotPts c 0 (commAt m ρ c) := by
  refine slotPts_congr _ _ fun r j => ?_
  have hb : commAt m ρ c (ix3 0 r j) = sendAt m ρ c (ix2 r j) := by
    show sendAt m ρ (bk c 0) (ix2 r j) = _; rw [bk_zero]
  rw [hb]
  exact store_slot0_at f (k0_pay2 (xstg m ρ c)) (k0_pay3 (vdev c) (xstg m ρ c)) r j

end Cert.KernelIdeal.Exchange

end
-- ==== Proof.KernelIdeal.Sched.lean ====
/-
# Who pays which semaphore, and what a payment hands over

One round: every device signals the barrier of every other, handing over the landing slot the other is to fill; each transfer
pays the sender's send semaphore, handing back the share of the send buffer it read, and the receiver's receive semaphore,
handing over the filled slot. Then what each device owes at the start, and the levels that order the waits.
-/
module

public import proofs.«01_k».proof.Proof.KernelIdeal.Contents

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Sets of slots -/

/-- The slots from `k` on. -/
def fr (k : ℕ) : Finset (Fin 32) := Finset.univ.filter fun j => k ≤ j.val
/-- The slots from 1 up to, and not including, `k`. -/
def dn (k : ℕ) : Finset (Fin 32) := Finset.univ.filter fun j => 1 ≤ j.val ∧ j.val < k

theorem mem_fr {k : ℕ} {j : Fin 32} : j ∈ fr k ↔ k ≤ j.val := by simp [fr]
theorem mem_dn {k : ℕ} {j : Fin 32} : j ∈ dn k ↔ 1 ≤ j.val ∧ j.val < k := by simp [dn]
theorem fr_succ {k : ℕ} (hk : k < 32) : fr k = insert ⟨k, hk⟩ (fr (k + 1)) := by
  ext j
  rw [Finset.mem_insert, mem_fr, mem_fr, Fin.ext_iff]
  show k ≤ j.val ↔ j.val = k ∨ k + 1 ≤ j.val
  omega
theorem not_mem_fr {k : ℕ} (hk : k < 32) : (⟨k, hk⟩ : Fin 32) ∉ fr (k + 1) := fun h => by
  have h' : k + 1 ≤ k := mem_fr.mp h
  omega
theorem dn_succ {k : ℕ} (h1 : 1 ≤ k) (hk : k < 32) : dn (k + 1) = insert ⟨k, hk⟩ (dn k) := by
  ext j
  rw [Finset.mem_insert, mem_dn, mem_dn, Fin.ext_iff]
  show _ ↔ j.val = k ∨ _
  omega
theorem not_mem_dn {k : ℕ} (hk : k < 32) : (⟨k, hk⟩ : Fin 32) ∉ dn k := fun h => by
  have h' : 1 ≤ k ∧ k < k := mem_dn.mp h
  omega
theorem fr_end : fr 32 = ∅ := by decide
theorem dn_start : dn 1 = ∅ := by decide
theorem dn_end : dn 32 = fr 1 := by decide
theorem univ_eq : (Finset.univ : Finset (Fin 32)) = insert 0 (fr 1) := by decide
theorem zero_not_mem : (0 : Fin 32) ∉ fr 1 := by decide
theorem card_fr : (fr 1).card = 31 := by decide

/-- Every other device is some number of places on: -/
theorem others_sh (c : Dev nD) : (Finset.univ.erase c : Finset (Dev nD)) = (fr 1).map ⟨fun j => sh c j.val, fun _ _ h => sh_inj c h⟩ := by
  ext d
  rw [Finset.mem_erase, Finset.mem_map]
  constructor
  · rintro ⟨hd, -⟩
    refine ⟨dist c d, mem_fr.mpr (Nat.one_le_iff_ne_zero.mpr fun h => hd ?_), sh_dist c d⟩
    have := sh_dist c d
    rw [h] at this
    rw [← this]
    exact Fin.ext (by have : c.val < 32 := c.isLt; simp only [sh]; omega)
  · rintro ⟨j, hj, rfl⟩
    exact ⟨sh_ne c (mem_fr.mp hj) j.isLt, Finset.mem_univ _⟩

theorem bk_inj (c : Dev nD) {j k : Fin 32} (h : bk c j.val = bk c k.val) : j = k := by
  have h' : (c.val + 32 - j.val) % 32 = (c.val + 32 - k.val) % 32 := congrArg Fin.val h
  have : c.val < 32 := c.isLt
  exact Fin.ext (by omega)

/-- and some number of places back. -/
theorem others_bk (c : Dev nD) : (Finset.univ.erase c : Finset (Dev nD)) = (fr 1).map ⟨fun j => bk c j.val, fun _ _ h => bk_inj c h⟩ := by
  refine (Finset.eq_of_subset_of_card_le (fun d hd => ?_) ?_).symm
  · obtain ⟨j, hj, rfl⟩ := Finset.mem_map.mp hd
    refine Finset.mem_erase.mpr ⟨fun h => ?_, Finset.mem_univ _⟩
    have h1 := sh_bk c j.isLt
    rw [show bk c j.val = c from h] at h1
    exact sh_ne c (mem_fr.mp hj) j.isLt h1
  · rw [Finset.card_map, card_fr, Finset.card_erase_of_mem (Finset.mem_univ _), Finset.card_univ, Fintype.card_fin]; exact le_refl 31

/-! ## The schedule -/

/-- The payer's name on a cell that one device alone pays. -/
abbrev z : Dev nD := ⟨0, by decide⟩

/-- The slot of a send or receive semaphore, `o` the number of the first. -/
def slotOf (q : DmaSem sig) (o : ℕ) : Fin 32 := ⟨(q.val - o) % 32, Nat.mod_lt _ (by decide)⟩

/-- What device `d`'s signal hands device `c`: the slot of `d`'s landing buffer that `c` is to fill. -/
def barPay (c d : Dev nD) : sProp 𝕄 := iprop(∃ f, slotPts d (dist c d) f)
/-- What a completed transfer hands its receiver: the slot filled. -/
def recvPay (c : Dev nD) (k : Fin 32) : sProp 𝕄 := slotPts c k (commAt m ρ c)
/-- What it hands its sender: the share of the send buffer it read. -/
def sendPay (c : Dev nD) (k : Fin 32) : sProp 𝕄 := rowsPts c (Transfers.shareTok fullShare 32 k) (sendAt m ρ c)

/-- The devices that pay a cell of device `c`: every other device pays the barrier, one transfer each send and receive
    semaphore but those of slot 0, which carry nothing. -/
def duty (c : Dev nD) : SemLoc sig → Finset (Dev nD)
  | .reg _ => Finset.univ.erase c
  | .dma q => if 2 < q.val ∧ q.val ≠ 34 then {z} else ∅
/-- How much a payment is: one at the barrier, two rows' credit at a transfer's semaphores. -/
def amt : SemLoc sig → ℕ
  | .reg _ => 1
  | .dma _ => N
/-- What a payment hands over. -/
def pay (c : Dev nD) : SemLoc sig → Dev nD → sProp 𝕄
  | .reg _, d => barPay c d
  | .dma q, _ => if q.val < 34 then sendPay m ρ c (slotOf q 2) else recvPay m ρ c (slotOf q 34)

/-- One round of payments, and no more. -/
def xRd : Rounds.Schedule (GSem nD τ sig) (Dev nD) 𝕄 where
  duties g r := if r = 0 ∧ g.1.2 = .tc then duty g.1.1 g.2 else ∅
  unitless _ := False
  amount g _ _ := amt g.2
  payload g _ d := pay m ρ g.1.1 g.2 d
  amount_pos g _ _ _ := by
    match g.2 with
    | .reg _ => exact Nat.one_pos
    | .dma _ => exact N_pos

instance xRd_payload_storable (g : GSem nD τ sig) (r : ℕ) (d : Dev nD) :
    BI.Storable (upEmb : UEmb _ 𝕄) ((xRd (F := F) m ρ).payload g r d) := by
  show BI.Storable upEmb (pay m ρ g.1.1 g.2 d)
  match g.2 with
  | .reg _ => show BI.Storable upEmb (barPay g.1.1 d); unfold barPay; infer_instance
  | .dma q =>
    show BI.Storable upEmb (if q.val < 34 then sendPay m ρ g.1.1 (slotOf q 2) else recvPay m ρ g.1.1 (slotOf q 34))
    unfold sendPay recvPay
    split <;> infer_instance

section Sched
variable (c : Dev nD) (k : Fin 32)

theorem slotOf_send : slotOf (sendS k) 2 = k := Fin.ext (by have := k.isLt; show ((sendS k).val - 2) % 32 = k.val; rw [sendS_val]; omega)
theorem slotOf_recv : slotOf (recvS k) 34 = k := Fin.ext (by have := k.isLt; show ((recvS k).val - 34) % 32 = k.val; rw [recvS_val]; omega)

theorem duties_bar : (xRd (F := F) m ρ).duties (barCell c) 0 = Finset.univ.erase c := by
  show (if (0 : ℕ) = 0 ∧ (Proc.tc : Proc τ) = Proc.tc then Finset.univ.erase c else ∅) = _; exact if_pos ⟨rfl, rfl⟩
theorem duty_one {c : Dev nD} {q : DmaSem sig} (h : 2 < q.val ∧ q.val ≠ 34) : (xRd (F := F) m ρ).duties ((c : Thread nD τ), .dma q) 0 = {z} := by
  show (if (0 : ℕ) = 0 ∧ (Proc.tc : Proc τ) = Proc.tc then (if 2 < q.val ∧ q.val ≠ 34 then {z} else ∅) else ∅) = _
  rw [if_pos ⟨rfl, rfl⟩, if_pos h]
theorem duty_none {c : Dev nD} {q : DmaSem sig} (h : ¬ (2 < q.val ∧ q.val ≠ 34)) (r : ℕ) : (xRd (F := F) m ρ).duties ((c : Thread nD τ), .dma q) r = ∅ := by
  show (if r = 0 ∧ (Proc.tc : Proc τ) = Proc.tc then (if 2 < q.val ∧ q.val ≠ 34 then {z} else ∅) else ∅) = _
  rw [if_neg h, ite_self]
theorem duties_send (hk : 1 ≤ k.val) : (xRd (F := F) m ρ).duties (sendCell c k) 0 = {z} :=
  duty_one m ρ (by have := sendS_val k; have := k.isLt; omega)
theorem duties_recv (hk : 1 ≤ k.val) : (xRd (F := F) m ρ).duties (recvCell c k) 0 = {z} :=
  duty_one m ρ (by have := recvS_val k; have := k.isLt; omega)
theorem duties_later (g : GSem nD τ sig) : ∀ r, 1 ≤ r → (xRd (F := F) m ρ).duties g r = ∅ :=
  fun r hr => if_neg fun h => by omega
theorem duties_send0 : ∀ r, 0 ≤ r → (xRd (F := F) m ρ).duties (sendCell c 0) r = ∅ := fun r _ => duty_none m ρ (by have := sendS_val 0; omega) r
theorem duties_recv0 : ∀ r, 0 ≤ r → (xRd (F := F) m ρ).duties (recvCell c 0) r = ∅ := fun r _ => duty_none m ρ (by have := recvS_val 0; omega) r

theorem amount_bar (d : Dev nD) : (xRd (F := F) m ρ).amount (barCell c) 0 d = 1 := rfl
theorem amount_send (d : Dev nD) : (xRd (F := F) m ρ).amount (sendCell c k) 0 d = N := rfl
theorem amount_recv (d : Dev nD) : (xRd (F := F) m ρ).amount (recvCell c k) 0 d = N := rfl

theorem expect_bar : (xRd (F := F) m ρ).expect (barCell c) 0 = 31 := by
  unfold Schedule.expect Schedule.amountOf
  rw [duties_bar, Finset.sum_congr rfl fun d _ => amount_bar m ρ c d, Finset.sum_const,
    Finset.card_erase_of_mem (Finset.mem_univ _), Finset.card_univ, Fintype.card_fin, smul_eq_mul]
  exact Nat.mul_one 31
theorem expect_send (hk : 1 ≤ k.val) : (xRd (F := F) m ρ).expect (sendCell c k) 0 = N := by
  unfold Schedule.expect Schedule.amountOf; rw [duties_send m ρ c k hk, Finset.sum_singleton, amount_send]
theorem expect_recv (hk : 1 ≤ k.val) : (xRd (F := F) m ρ).expect (recvCell c k) 0 = N := by
  unfold Schedule.expect Schedule.amountOf; rw [duties_recv m ρ c k hk, Finset.sum_singleton, amount_recv]

theorem payload_bar (d : Dev nD) : (xRd (F := F) m ρ).payload (barCell c) 0 d = barPay c d := rfl
theorem payload_send (d : Dev nD) : (xRd (F := F) m ρ).payload (sendCell c k) 0 d = sendPay m ρ c k :=
  (if_pos (by have := sendS_val k; have := k.isLt; omega)).trans (by rw [slotOf_send])
theorem payload_recv (d : Dev nD) : (xRd (F := F) m ρ).payload (recvCell c k) 0 d = recvPay m ρ c k :=
  (if_neg (by have := recvS_val k; omega)).trans (by rw [slotOf_recv])

/-- The whole of the barrier's round: from the device `j` places on, its slot `j`. -/
theorem rest_bar : bigSep ((xRd (F := F) m ρ).duties (barCell c) 0 \ ∅) (fun d => (xRd (F := F) m ρ).payload (barCell c) 0 d)
    = bigSep (fr 1) fun j => iprop(∃ f, slotPts (F := F) (sh c j.val) j f) := by
  rw [Finset.sdiff_empty, duties_bar, others_sh, bigSep_map]
  refine bigSep_congr fun j _ => ?_
  show iprop(∃ f, slotPts (sh c j.val) (dist c (sh c j.val)) f) = _
  rw [dist_sh c j.isLt]
theorem rest_send (hk : 1 ≤ k.val) : bigSep ((xRd (F := F) m ρ).duties (sendCell c k) 0 \ ∅) (fun d => (xRd (F := F) m ρ).payload (sendCell c k) 0 d)
    = sendPay m ρ c k := by
  rw [Finset.sdiff_empty, duties_send m ρ c k hk, bigSep_singleton, payload_send]
theorem rest_recv (hk : 1 ≤ k.val) : bigSep ((xRd (F := F) m ρ).duties (recvCell c k) 0 \ ∅) (fun d => (xRd (F := F) m ρ).payload (recvCell c k) 0 d)
    = recvPay m ρ c k := by
  rw [Finset.sdiff_empty, duties_recv m ρ c k hk, bigSep_singleton, payload_recv]

end Sched

/-! ## What each device owes, and the levels -/

/-- The credits of the transfers device `c` still has to make, from slot `k` on. -/
def OR (c : Dev nD) (k : ℕ) : CellTallies nD τ sig Unit := ∑ j ∈ fr k, tallyAt (recvCell (sh c j.val) j) () N
/-- The signals it still has to give. -/
def OB (c : Dev nD) (k : ℕ) : CellTallies nD τ sig Unit := ∑ j ∈ fr k, tallyAt (barCell (sh c j.val)) () 1
def O₀ (c : Dev nD) : CellTallies nD τ sig Unit := OR c 1 + OB c 1

theorem OR_succ (c : Dev nD) {k : ℕ} (hk : k < 32) : OR c k = OR c (k + 1) + tallyAt (recvCell (sh c k) ⟨k, hk⟩) () N := by
  unfold OR; rw [fr_succ hk, Finset.sum_insert (not_mem_fr hk), add_comm]
theorem OB_succ (c : Dev nD) {k : ℕ} (hk : k < 32) : OB c k = OB c (k + 1) + tallyAt (barCell (sh c k)) () 1 := by
  unfold OB; rw [fr_succ hk, Finset.sum_insert (not_mem_fr hk), add_comm]
theorem OR_end (c : Dev nD) : OR c 32 = 0 := by unfold OR; rw [fr_end, Finset.sum_empty]
theorem OB_end (c : Dev nD) : OB c 32 = 0 := by unfold OB; rw [fr_end, Finset.sum_empty]

def L (g : GSem nD τ sig) : Finset Unit := if g.1.2 = .tc then {()} else ∅
/-- The barrier's level is 1, a receive semaphore's 2, any other's 0. -/
def lvS : SemLoc sig → ℕ
  | .reg _ => 1
  | .dma q => if 34 ≤ q.val then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 32) : lv (recvCell c k) () = 2 := if_pos (by have := recvS_val k; omega)

theorem sum_pos {s : Finset (Fin 32)} {t : Fin 32 → CellTallies nD τ sig Unit} {g : GSem nD τ sig} {u : Unit}
    (h : 0 < (∑ j ∈ s, t j) g u) : ∃ j, 0 < t j g u := by
  by_contra hn
  have h0 : ∀ j, t j g u = 0 := fun j => Nat.eq_zero_of_not_pos fun hj => hn ⟨j, hj⟩
  have : (∑ j ∈ s, t j) g u = ∑ j ∈ s, t j g u := by rw [Finset.sum_apply, Finsupp.finset_sum_apply]
  rw [this, Finset.sum_eq_zero fun j _ => h0 j] at h
  exact Nat.lt_irrefl 0 h

theorem tally_pos {g g' : GSem nD τ sig} {u : Unit} {n : ℕ} (h : 0 < tallyAt g' () n g u) : g = g' := by
  rw [tallyAt_apply] at h
  by_contra hn
  rw [if_neg fun h' => hn h'.1] at h
  exact Nat.lt_irrefl 0 h

theorem OR_pos {c : Dev nD} {k : ℕ} {g : GSem nD τ sig} {u : Unit} (h : 0 < OR c k g u) : ∃ (d : Dev nD) (j : Fin 32), g = recvCell d j := by
  obtain ⟨j, hj⟩ := sum_pos h; exact ⟨_, j, tally_pos hj⟩
theorem OB_pos {c : Dev nD} {k : ℕ} {g : GSem nD τ sig} {u : Unit} (h : 0 < OB c k g u) : ∃ d : Dev nD, g = barCell d := by
  obtain ⟨j, hj⟩ := sum_pos h; exact ⟨_, tally_pos hj⟩
theorem O₀_pos {c : Dev nD} {g : GSem nD τ sig} {u : Unit} (h : 0 < O₀ c g u) :
    (∃ (d : Dev nD) (j : Fin 32), g = recvCell d j) ∨ ∃ d : Dev nD, g = barCell d := by
  unfold O₀ at h
  rw [Pi.add_apply, Finsupp.add_apply] at h
  rcases Nat.eq_zero_or_pos (OR c 1 g u) with h0 | h0
  · rw [h0, Nat.zero_add] at h; exact .inr (OB_pos h)
  · exact .inl (OR_pos h0)

/-- A staging semaphore may be waited on whatever the device owes. -/
theorem mayWait_stage (c : Dev nD) (q : DmaSem sig) (hq : q.val < 34) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, j, rfl⟩ | ⟨d, rfl⟩ <;> exact Finset.mem_singleton_self _)
      (fun p hp => by
        rw [Finset.mem_singleton.mp hp]
        exact le_of_eq (if_neg (Nat.not_le.mpr hq)))
      (fun g u hg => by
        rcases O₀_pos hg with ⟨d, j, rfl⟩ | ⟨d, rfl⟩
        · show 0 < lv (recvCell d j) (); rw [lv_recv]; decide
        · exact Nat.one_pos)
  · rw [MayWait_zero]; iintro -; iempintro

/-- At its barrier a device owes transfers only, whose semaphores lie above the barrier. -/
theorem mayWait_bar (c : Dev nD) : (levAts L lv : sProp 𝕄) ⊢ MayWait (c : Thread nD τ) (.reg barS) () (OR c 1) :=
  MayOwe.of_cut (L := L) (lev := lv) 1 (fun p hp => by rw [Finset.mem_singleton.mp hp, L_tc]; exact Finset.mem_singleton_self _)
    (fun g u hg => by obtain ⟨d, j, rfl⟩ := OR_pos hg; exact Finset.mem_singleton_self _)
    (fun p hp => by rw [Finset.mem_singleton.mp hp]; exact le_refl 1)
    (fun g u hg => by obtain ⟨d, j, rfl⟩ := OR_pos hg; show 1 < lv (recvCell d j) (); rw [lv_recv]; decide)

end Cert.KernelIdeal.Exchange

end
-- ==== Proof.KernelIdeal.Steps.lean ====
/-
# One step of each phase

A device signals, waits at the barrier, transfers, waits for its slots to be filled, waits for its transfers to have left. Of each
phase this file states what a device holds with `k` steps done, and what one more step does to it.
-/
module

public import proofs.«01_k».proof.Proof.KernelIdeal.Sched

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## All the cells, and what is known of them throughout -/

/-- The semaphores of one device: the barrier, the send semaphores (`false`), the receive semaphores (`true`). -/
abbrev CK : Type := Option (Bool × Fin 32)
abbrev osem : Bool × Fin 32 → SemLoc sig := fun bk => if bk.1 then .dma (recvS bk.2) else .dma (sendS bk.2)
abbrev csem : CK → SemLoc sig := fun | none => .reg barS | some bk => osem bk
abbrev kcell (ck : Dev nD × CK) : GSem nD τ sig := ((ck.1 : Thread nD τ), csem ck.2)

/-- Every cell's invariant, under the names `K`, and that every cell's round 0 is reached. -/
def recs (K : Dev nD × CK → ℕ) : sProp 𝕄 :=
  iprop((bigSep Finset.univ fun ck : Dev nD × CK => cellInv ER (xRd m ρ) (K ck) (kcell ck))
    ∗ bigSep Finset.univ fun ck : Dev nD × CK => reached ER (kcell ck) 0)

instance recs_persistent (K : Dev nD × CK → ℕ) : BI.Persistent (recs m ρ K) := by unfold recs; infer_instance

variable (K : Dev nD × CK → ℕ)

theorem inv_at (ck : Dev nD × CK) : recs m ρ K ⊢ cellInv ER (xRd m ρ) (K ck) (kcell ck) :=
  (BIBase.Entails.trans Laws.sep_and and_elimL).trans (bigSep_elim (Finset.mem_univ ck))
theorem reached_at (ck : Dev nD × CK) : recs m ρ K ⊢ reached ER (kcell ck) 0 :=
  (BIBase.Entails.trans Laws.sep_and and_elimR).trans (bigSep_elim (Finset.mem_univ ck))

abbrev 𝒱₀ : Variants := Variants.none

/-- Device `c` runs `P` to the postcondition `Q`. -/
abbrev WP (c : Dev nD) {α : Type} (P : Prog (TpuEff nD τ sig (Elt F) Λ₀ .tc) α) (Q : α → sProp 𝕄) : sProp 𝕄 :=
  wp frame (wpE (defs₀ (F := F)) 𝒱₀ (c : Thread nD τ) none) Set.univ P Q

/-- Device `c` owes `O`, whatever it has waited for. -/
def ow (c : Dev nD) (O : CellTallies nD τ sig Unit) : sProp 𝕄 := iprop(∃ W, owes (c : Thread nD τ) O W)

omit [FloatOps F] in
theorem fr_split {k : ℕ} (hk : k < 32) (Φ : Fin 32 → sProp 𝕄) : bigSep (fr k) Φ = iprop(Φ ⟨k, hk⟩ ∗ bigSep (fr (k + 1)) Φ) := by
  rw [fr_succ hk]; exact bigSep_insert (not_mem_fr hk)
omit [FloatOps F] in
theorem dn_split {k : ℕ} (h1 : 1 ≤ k) (hk : k < 32) (Φ : Fin 32 → sProp 𝕄) : bigSep (dn (k + 1)) Φ = iprop(Φ ⟨k, hk⟩ ∗ bigSep (dn k) Φ) := by
  rw [dn_succ h1 hk]; exact bigSep_insert (not_mem_dn hk)
omit [FloatOps F] in
theorem univ_split (Φ : Fin 32 → sProp 𝕄) : bigSep Finset.univ Φ = iprop(Φ 0 ∗ bigSep (fr 1) Φ) := by
  rw [univ_eq]; exact bigSep_insert zero_not_mem

/-! ## The four phases -/

/-- Signals: those to give from `k` on, each with its token and the slot it hands over. -/
def SA (c : Dev nD) (k : ℕ) : sProp 𝕄 :=
  iprop(ow c (OR c 1 + OB c k) ∗ bigSep (fr k) fun j => iprop(dutyTok ER (barCell (sh c j.val)) 0 c ∗ ∃ f, slotPts (F := F) c (neg j.val) f))

/-- What a transfer into slot `j` needs. -/
def copyPre (c : Dev nD) (j : Fin 32) : sProp 𝕄 :=
  iprop((∃ f, slotPts (F := F) (sh c j.val) j f) ∗ dutyTok ER (recvCell (sh c j.val) j) 0 z ∗ dutyTok ER (sendCell c j) 0 z
    ∗ rowsPts c (Transfers.shareTok fullShare 32 j) (sendAt m ρ c))
/-- Transfers: those to make from `k` on, and the credit of those made. -/
def SC (c : Dev nD) (k : ℕ) : sProp 𝕄 :=
  iprop(ow c (OR c k) ∗ bigSep (fr k) (copyPre m ρ c) ∗ bigSep (dn k) fun j => cred (tallyAt (sendCell c j) () N))

/-- Receptions: those to wait for from `k` on, and the slots filled by those awaited. -/
def SD (c : Dev nD) (k : ℕ) : sProp 𝕄 :=
  iprop(ow c 0 ∗ bigSep (fr k) (fun j => iprop(atPos ER (recvCell c j) 0 ∅ 0 ∗ cred (tallyAt (recvCell c j) () N)))
    ∗ bigSep (dn k) fun j => iprop(slotPts c j (commAt m ρ c) ∗ semVal (recvCell c j) 0))

/-- Send completions: those to wait for from `k` on, and the shares of the send buffer that came back. -/
def SF (c : Dev nD) (k : ℕ) : sProp 𝕄 :=
  iprop(ow c 0 ∗ bigSep (fr k) (fun j => iprop(atPos ER (sendCell c j) 0 ∅ 0 ∗ cred (tallyAt (sendCell c j) () N)))
    ∗ bigSep (dn k) fun j => iprop(rowsPts c (Transfers.shareTok fullShare 32 j) (sendAt m ρ c) ∗ semVal (sendCell c j) 0))

/-! ## One step of each phase -/

section Steps

variable (c : Dev nD) {α : Type} {rest : PUnit → Prog (TpuEff nD τ sig (Elt F) Λ₀ .tc) α}

/-- The signal to the device `k` places on. -/
theorem step_signal {Q : α → sProp 𝕄} {Fr : sProp 𝕄} (k : ℕ) (h1 : 1 ≤ k) (hk : k < 32) (d : Dev nD) (hd : d = sh c k)
    (h : iprop(recs m ρ K ∗ SA c (k + 1) ∗ Fr) ⊢ WP c (rest ⟨⟩) Q) :
    iprop(recs m ρ K ∗ SA c k ∗ Fr) ⊢ WP c (.op (.semSignal (d : Thread nD τ) barS 1) rest) Q := by
  subst hd
  unfold SA ow
  rw [fr_split hk]
  iintro ⟨#HR, ⟨⟨%W, HO⟩, ⟨Ht, Hs⟩, Hrest⟩, HF⟩
  iapply (Rounds.wp_signal 𝒱₀ ER (xRd m ρ) (c : Thread nD τ) none (dst := (sh c k : Thread nD τ)) (κ := K (sh c k, none))
      (d := c) (by rw [duties_bar]; exact Finset.mem_erase.mpr ⟨(sh_ne c h1 hk).symm, Finset.mem_univ _⟩) (amount_bar m ρ (sh c k) c) ()
      (OR c 1 + OB c (k + 1)) (O₀ := OR c 1 + OB c k) (by rw [OB_succ c hk, add_assoc]) (W := W)) $$ [HO Ht Hs]
  · isplitr; · iapply (inv_at m ρ K (sh c k, none)); iexact HR
    isplitl [HO]; · iexact HO
    isplitl [Ht]; · iexact Ht
    isplitl [Hs]
    · rw [payload_bar]; unfold barPay; rw [dist_back c hk]; iexact Hs
    · iapply (reached_at m ρ K (sh c k, none)); iexact HR
  iintro HO
  iapply h
  unfold SA ow
  isplitr; · iexact HR
  isplitl [HO Hrest]
  · isplitl [HO]; · iexists W; iexact HO
    iexact Hrest
  iexact HF

/-- The credit of a landing in slot `k`. -/
theorem amount_slot (k : Fin 32) : (slotM k).view.amount (.dma (recvS k)) = N := credit_slot k

/-- What the landing of a transfer pays. -/
theorem landing_pays (k : Fin 32) (h1 : 1 ≤ k.val) (f : Buf (Elt F) ((sh c k.val : Thread nD τ).loc cc0_scratch0)) :
    (((slotM k).view.loc (sh c k.val : Thread nD τ)) ↦[(slotM k).view.set]{fullShare}
        ((slotM k).view.write (Elt F) f (bM.view.read (Elt F) (sendAt m ρ c)) Finset.univ))
      ⊢ (xRd m ρ).payload (recvCell (sh c k.val) k) 0 z := by
  rw [payload_recv]
  exact Entails.of_eq (landed_eq m ρ c k f)

/-- What a transfer's leaving pays. -/
theorem leaving_pays (k : Fin 32) :
    ((bM.view.loc (c : Thread nD τ)) ↦[bM.view.set]{Transfers.shareTok fullShare 32 k} (sendAt m ρ c))
      ⊢ (xRd m ρ).payload (sendCell c k) 0 z := by
  rw [payload_send]
  exact BI.Entails.refl _

/-- One transfer out of the send buffer, whatever the slot, the semaphores and the credit. -/
theorem wp_copy_any {Q : α → sProp 𝕄} (d : Dev nD) (dst : Memref sig .tc .vmem S2x512 .f32) (sS sR : DmaSem sig) (n : ℕ)
    {hsc : (dst : Memref sig (Dev.tc d : Thread nD τ).2.kind .vmem S2x512 .f32).view.ref.isScScratch = false}
    {hsrc : bM.view.WordExact} {hdst : dst.view.WordExact}
    {hsem : DmaTarget.Typed .vmem (.dma sR) (.remote (Dev.tc d : Thread nD τ) dst (.dma sS) hsc)}
    (q : PosShare TreeShare) (g : Buf (Elt F) (bM.view.loc (c : Thread nD τ))) (f : Buf (Elt F) (dst.view.loc (d : Thread nD τ)))
    (O : CellTallies nD τ sig Unit) (W : Waits sig Unit) (κ₁ κ₂ : ℕ)
    (hd₁ : z ∈ (xRd m ρ).duties ((c : Thread nD τ), .dma sS) 0) (hd₂ : z ∈ (xRd m ρ).duties ((d : Thread nD τ), .dma sR) 0)
    (hN : dst.view.amount (.dma sR) = n)
    (hk₁ : (xRd m ρ).amount ((c : Thread nD τ), .dma sS) 0 z = n) (hk₂ : (xRd m ρ).amount ((d : Thread nD τ), .dma sR) 0 z = n)
    (hp₁ : ((bM.view.loc (c : Thread nD τ)) ↦[bM.view.set]{q} g) ⊢ (xRd m ρ).payload ((c : Thread nD τ), .dma sS) 0 z)
    (hp₂ : ((dst.view.loc (d : Thread nD τ)) ↦[dst.view.set]{fullShare} (dst.view.write (Elt F) f (bM.view.read (Elt F) g) Finset.univ))
      ⊢ (xRd m ρ).payload ((d : Thread nD τ), .dma sR) 0 z) :
    iprop(cellInv ER (xRd m ρ) κ₁ ((c : Thread nD τ), .dma sS) ∗ cellInv ER (xRd m ρ) κ₂ ((d : Thread nD τ), .dma sR)
        ∗ ((bM.view.loc (c : Thread nD τ)) ↦[bM.view.set]{q} g) ∗ ((dst.view.loc (d : Thread nD τ)) ↦[dst.view.set]{fullShare} f)
        ∗ owes (c : Thread nD τ) (O + tallyAt ((d : Thread nD τ), .dma sR) () n) W
        ∗ dutyTok ER ((c : Thread nD τ), .dma sS) 0 z ∗ reached ER ((c : Thread nD τ), .dma sS) 0
        ∗ dutyTok ER ((d : Thread nD τ), .dma sR) 0 z ∗ reached ER ((d : Thread nD τ), .dma sR) 0)
      ⊢ iprop(((cred (tallyAt ((c : Thread nD τ), .dma sS) () n) ∗ owes (c : Thread nD τ) O W) -∗ WP c (rest ⟨⟩) Q)
          -∗ WP c (.op (.enqueueDma bM (.remote (Dev.tc d : Thread nD τ) dst (.dma sS) hsc) (.dma sR) hsrc hdst hsem) rest) Q) :=
  Rounds.wp_send_pointsTo 𝒱₀ ER (xRd m ρ) (c : Thread nD τ) none (κ₁ := κ₁) (κ₂ := κ₂)
    (r₁ := 0) (r₂ := 0) (d₁ := z) (d₂ := z) (fd := f) hd₁ hd₂ () () n hN hk₁ hk₂ O rfl (W := W) hp₁ hp₂

/-- One transfer, from the send buffer into the slot of the device `k` places on. -/
theorem wp_copy {Q : α → sProp 𝕄} (k : Fin 32) (h1 : 1 ≤ k.val) (d : Dev nD) (hd : d = sh c k.val)
    {hsc : (slotM k : Memref sig (Dev.tc d : Thread nD τ).2.kind .vmem S2x512 .f32).view.ref.isScScratch = false}
    {hsrc : bM.view.WordExact} {hdst : (slotM k).view.WordExact}
    {hsem : DmaTarget.Typed .vmem (.dma (recvS k)) (.remote (Dev.tc d : Thread nD τ) (slotM k) (.dma (sendS k)) hsc)}
    (f : Buf (Elt F) ((sh c k.val : Thread nD τ).loc cc0_scratch0)) (O : CellTallies nD τ sig Unit) (W : Waits sig Unit) :
    iprop(cellInv ER (xRd m ρ) (K (c, some (false, k))) (sendCell c k) ∗ cellInv ER (xRd m ρ) (K (sh c k.val, some (true, k))) (recvCell (sh c k.val) k)
        ∗ rowsPts c (Transfers.shareTok fullShare 32 k) (sendAt m ρ c) ∗ slotPts (sh c k.val) k f
        ∗ owes (c : Thread nD τ) (O + tallyAt (recvCell (sh c k.val) k) () N) W
        ∗ dutyTok ER (sendCell c k) 0 z ∗ reached ER (sendCell c k) 0
        ∗ dutyTok ER (recvCell (sh c k.val) k) 0 z ∗ reached ER (recvCell (sh c k.val) k) 0)
      ⊢ iprop(((cred (tallyAt (sendCell c k) () N) ∗ owes (c : Thread nD τ) O W) -∗ WP c (rest ⟨⟩) Q)
          -∗ WP c (.op (.enqueueDma bM (.remote (Dev.tc d : Thread nD τ) (slotM k) (.dma (sendS k)) hsc) (.dma (recvS k)) hsrc hdst hsem) rest) Q) := by
  subst hd
  unfold rowsPts slotPts
  exact wp_copy_any m ρ c (sh c k.val) (slotM k) (sendS k) (recvS k) N (Transfers.shareTok fullShare 32 k) (sendAt m ρ c) f O W
    (K (c, some (false, k))) (K (sh c k.val, some (true, k)))
    (by rw [duties_send m ρ c k h1]; exact Finset.mem_singleton_self _) (by rw [duties_recv m ρ (sh c k.val) k h1]; exact Finset.mem_singleton_self _)
    (amount_slot k) (amount_send m ρ c k z) (amount_recv m ρ (sh c k.val) k z) (leaving_pays m ρ c k) (landing_pays m ρ c k h1 f)

/-- The transfer into slot `k` of the device `k` places on. -/
theorem step_copy {Q : α → sProp 𝕄} {Fr : sProp 𝕄} (k : ℕ) (h1 : 1 ≤ k) (hk : k < 32) (d : Dev nD) (hd : d = sh c k)
    {hsc : (slotM ⟨k, hk⟩ : Memref sig (Dev.tc d : Thread nD τ).2.kind .vmem S2x512 .f32).view.ref.isScScratch = false}
    {hsrc : bM.view.WordExact} {hdst : (slotM ⟨k, hk⟩).view.WordExact}
    {hsem : DmaTarget.Typed .vmem (.dma (recvS ⟨k, hk⟩)) (.remote (Dev.tc d : Thread nD τ) (slotM ⟨k, hk⟩) (.dma (sendS ⟨k, hk⟩)) hsc)}
    (h : iprop(recs m ρ K ∗ SC m ρ c (k + 1) ∗ Fr) ⊢ WP c (rest ⟨⟩) Q) :
    iprop(recs m ρ K ∗ SC m ρ c k ∗ Fr) ⊢ WP c (.op (.enqueueDma bM (.remote (Dev.tc d : Thread nD τ) (slotM ⟨k, hk⟩) (.dma (sendS ⟨k, hk⟩)) hsc)
      (.dma (recvS ⟨k, hk⟩)) hsrc hdst hsem) rest) Q := by
  unfold SC ow
  rw [fr_split hk, OR_succ c hk]
  iintro ⟨#HR, ⟨⟨%W, HO⟩, ⟨Hp, Hrest⟩, Hdone⟩, HF⟩
  unfold copyPre
  icases Hp with ⟨⟨%f, Hs⟩, Htr, Hts, Hb⟩
  iapply (wp_copy m ρ K c ⟨k, hk⟩ h1 d hd f (OR c (k + 1)) W) $$ [HO Hs Htr Hts Hb]
  · isplitr; · iapply (inv_at m ρ K (c, some (false, ⟨k, hk⟩))); iexact HR
    isplitr; · iapply (inv_at m ρ K (sh c k, some (true, ⟨k, hk⟩))); iexact HR
    isplitl [Hb]; · iexact Hb
    isplitl [Hs]; · iexact Hs
    isplitl [HO]; · iexact HO
    isplitl [Hts]; · iexact Hts
    isplitr; · iapply (reached_at m ρ K (c, some (false, ⟨k, hk⟩))); iexact HR
    isplitl [Htr]; · iexact Htr
    iapply (reached_at m ρ K (sh c k, some (true, ⟨k, hk⟩))); iexact HR
  iintro ⟨Hc, HO⟩
  iapply h
  unfold SC ow
  rw [dn_split h1 hk]
  isplitr; · iexact HR
  isplitl [HO Hrest Hc Hdone]
  · isplitl [HO]; · iexists W; iexact HO
    isplitl [Hrest]; · iexact Hrest
    isplitl [Hc] <;> iassumption
  iexact HF

/-- The wait for slot `k` to be filled. -/
theorem step_recv {Q : α → sProp 𝕄} {Fr : sProp 𝕄} (k : ℕ) (h1 : 1 ≤ k) (hk : k < 32) {hsrc : bM.view.WordExact} {hdst : (slotM ⟨k, hk⟩).view.WordExact}
    (h : iprop(recs m ρ K ∗ SD m ρ c (k + 1) ∗ Fr) ⊢ WP c (rest ⟨⟩) Q) :
    iprop(recs m ρ K ∗ SD m ρ c k ∗ Fr) ⊢ WP c (.op (.waitDma2 (recvS ⟨k, hk⟩) bM (slotM ⟨k, hk⟩) hsrc hdst) rest) Q := by
  unfold SD ow
  rw [fr_split hk]
  iintro ⟨#HR, ⟨⟨%W, HO⟩, ⟨⟨Hat, Hc⟩, Hrest⟩, Hdone⟩, HF⟩
  iapply (Rounds.wp_wait_rest_token 𝒱₀ ER (xRd m ρ) (c : Thread nD τ) none (κ := K (c, some (true, ⟨k, hk⟩)))
      (wpE_waitDma2_eq 𝒱₀ (c : Thread nD τ) none Set.univ) (Set.mem_univ _) () (O := 0) (W := W) (R := 0) (m := 0) (T := ∅)
      (by rw [Nat.zero_add, expect_recv m ρ c ⟨k, hk⟩ h1])) $$ [Hc HO Hat]
  · isplitr; · iapply (inv_at m ρ K (c, some (true, ⟨k, hk⟩))); iexact HR
    isplitl [Hc]; · iexact Hc
    isplitl [HO]; · iexact HO
    isplitr; · rw [MayWait_zero]; iempintro
    iexact Hat
  iintro ⟨HO, Hat, -, Hpay⟩
  ihave Hs := (Entails.of_eq (rest_recv m ρ c ⟨k, hk⟩ h1)) $$ Hpay
  imod (Rounds.cell_close ER (xRd m ρ) (Set.mem_univ (K (c, some (true, ⟨k, hk⟩)))) (fun h => h) (R := 0 + 1) (duties_later m ρ (recvCell c ⟨k, hk⟩))) $$ [Hat] with Hz
  · isplitr; · iapply (inv_at m ρ K (c, some (true, ⟨k, hk⟩))); iexact HR
    iexact Hat
  iapply h
  unfold SD ow recvPay
  rw [dn_split h1 hk]
  isplitr; · iexact HR
  isplitl [HO Hrest Hs Hz Hdone]
  · isplitl [HO]; · iexists _; iexact HO
    isplitl [Hrest]; · iexact Hrest
    isplitl [Hs Hz]
    · isplitl [Hs] <;> iassumption
    iexact Hdone
  iexact HF

/-- The wait for the transfer into slot `k` of another device to have read the send buffer. -/
theorem step_sent {Q : α → sProp 𝕄} {Fr : sProp 𝕄} (k : ℕ) (h1 : 1 ≤ k) (hk : k < 32) {hsrc : (slotM ⟨k, hk⟩).view.WordExact} {hdst : bM.view.WordExact}
    (h : iprop(recs m ρ K ∗ SF m ρ c (k + 1) ∗ Fr) ⊢ WP c (rest ⟨⟩) Q) :
    iprop(recs m ρ K ∗ SF m ρ c k ∗ Fr) ⊢ WP c (.op (.waitDma2 (sendS ⟨k, hk⟩) (slotM ⟨k, hk⟩) bM hsrc hdst) rest) Q := by
  unfold SF ow
  rw [fr_split hk]
  iintro ⟨#HR, ⟨⟨%W, HO⟩, ⟨⟨Hat, Hc⟩, Hrest⟩, Hdone⟩, HF⟩
  iapply (Rounds.wp_wait_rest_token 𝒱₀ ER (xRd m ρ) (c : Thread nD τ) none (κ := K (c, some (false, ⟨k, hk⟩)))
      (wpE_waitDma2_eq 𝒱₀ (c : Thread nD τ) none Set.univ) (Set.mem_univ _) () (O := 0) (W := W) (R := 0) (m := 0) (T := ∅)
      (by rw [Nat.zero_add, expect_send m ρ c ⟨k, hk⟩ h1])) $$ [Hc HO Hat]
  · isplitr; · iapply (inv_at m ρ K (c, some (false, ⟨k, hk⟩))); iexact HR
    isplitl [Hc]; · rw [credit_rows]; iexact Hc
    isplitl [HO]; · iexact HO
    isplitr; · rw [MayWait_zero]; iempintro
    iexact Hat
  iintro ⟨HO, Hat, -, Hpay⟩
  ihave Hs := (Entails.of_eq (rest_send m ρ c ⟨k, hk⟩ h1)) $$ Hpay
  imod (Rounds.cell_close ER (xRd m ρ) (Set.mem_univ (K (c, some (false, ⟨k, hk⟩)))) (fun h => h) (R := 0 + 1) (duties_later m ρ (sendCell c ⟨k, hk⟩))) $$ [Hat] with Hz
  · isplitr; · iapply (inv_at m ρ K (c, some (false, ⟨k, hk⟩))); iexact HR
    iexact Hat
  iapply h
  unfold SF ow sendPay
  rw [dn_split h1 hk]
  isplitr; · iexact HR
  isplitl [HO Hrest Hs Hz Hdone]
  · isplitl [HO]; · iexists _; iexact HO
    isplitl [Hrest]; · iexact Hrest
    isplitl [Hs Hz]
    · isplitl [Hs] <;> iassumption
    iexact Hdone
  iexact HF

/-- The wait at the barrier: every other device's slot comes with it, and the barrier's cell is done with. -/
theorem step_barrier {Q : α → sProp 𝕄} {Fr : sProp 𝕄}
    (h : iprop(recs m ρ K ∗ (ow c (OR c 1) ∗ semVal (barCell c) 0 ∗ bigSep (fr 1) fun j => iprop(∃ f, slotPts (F := F) (sh c j.val) j f)) ∗ Fr) ⊢ WP c (rest ⟨⟩) Q) :
    iprop(recs m ρ K ∗ (ow c (OR c 1) ∗ levAts L lv ∗ atPos ER (barCell c) 0 ∅ 0 ∗ cred (tallyAt (barCell c) () 31)) ∗ Fr)
      ⊢ WP c (.op (.semWait barS 31) rest) Q := by
  unfold ow
  iintro ⟨#HR, ⟨⟨%W, HO⟩, #Hlev, Hat, Hc⟩, HF⟩
  iapply (Rounds.wp_wait_rest_token 𝒱₀ ER (xRd m ρ) (c : Thread nD τ) none (κ := K (c, none))
      (wpE_semWait_eq 𝒱₀ (c : Thread nD τ) none Set.univ) (Set.mem_univ _) () (O := OR c 1) (W := W) (R := 0) (m := 0) (T := ∅)
      (by rw [expect_bar])) $$ [Hc HO Hat]
  · isplitr; · iapply (inv_at m ρ K (c, none)); iexact HR
    isplitl [Hc]; · iexact Hc
    isplitl [HO]; · iexact HO
    isplitr; · iapply (mayWait_bar c); iexact Hlev
    iexact Hat
  iintro ⟨HO, Hat, -, Hpay⟩
  ihave Hs := (Entails.of_eq (rest_bar m ρ c)) $$ Hpay
  imod (Rounds.cell_close ER (xRd m ρ) (Set.mem_univ (K (c, none))) (fun h => h) (R := 0 + 1) (duties_later m ρ (barCell c))) $$ [Hat] with Hz
  · isplitr; · iapply (inv_at m ρ K (c, none)); iexact HR
    iexact Hat
  iapply h
  unfold ow
  isplitr; · iexact HR
  isplitl [HO Hs Hz]
  · isplitl [HO]; · iexists _; iexact HO
    isplitl [Hz] <;> iassumption
  iexact HF

end Steps

end Cert.KernelIdeal.Exchange

end
-- ==== Proof.KernelIdeal.Parts.lean ====
/-
# The parts of the kernel that belong to one phase

Signals, transfers and waits: every part that does only one of them.
-/
module

public import proofs.«01_k».proof.Proof.KernelIdeal.Steps

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! Each of the kernel's consecutive parts takes the state of its phase as many steps further as it has operations. What the parts
return is only used where a theorem says what it is. -/

section

variable (K : Dev nD × CK → ℕ) (c : Dev nD)

theorem done {α : Type} {P : sProp 𝕄} {Q : α → sProp 𝕄} {a : α} (h : P ⊢ Q a) : P ⊢ WP c (.ret a) Q := by
  unfold WP; rw [wp_ret]; iintro H; imodintro; iapply h; iexact H

/-- The signals 1 to 5. -/
theorem part1 {Q : _ → sProp 𝕄} {Fr : sProp 𝕄}
    (h : ∀ v w, iprop(recs m ρ K ∗ SA c 6 ∗ Fr) ⊢ Q ⟨c, vdev c, SemArray.scalar (sig.barrier 0 rfl), v, w⟩) :
    iprop(recs m ρ K ∗ SA c 1 ∗ Fr) ⊢ WP c (k0_part1 xM (Memref.isWhole_whole _) oM (Memref.isWhole_whole _) cM (Memref.isWhole_whole _) bM (Memref.isWhole_whole _) cc0_scratch2 cc0_scratch3) Q := by
  rw [k0_part1_eq_skeleton]; unfold k0_part1_skel
  simp only [semSignalWord, Prog.lift, Prog.bind_op, Prog.bind_ret, Prog.pure_eq_ret, wp_deviceId]
  refine step_signal m ρ K c 1 (by decide) (by decide) _ (Fin.ext (k0_dev1_eq c)) ?_
  refine step_signal m ρ K c 2 (by decide) (by decide) _ (Fin.ext (k0_dev2_eq c)) ?_
  refine step_signal m ρ K c 3 (by decide) (by decide) _ (Fin.ext (k0_dev3_eq c)) ?_
  refine step_signal m ρ K c 4 (by decide) (by decide) _ (Fin.ext (k0_dev4_eq c)) ?_
  refine step_signal m ρ K c 5 (by decide) (by decide) _ (Fin.ext (k0_dev5_eq c)) ?_
  exact done c (h _ _)

/-- The signals 6 to 11. -/
theorem part2 {Q : _ → sProp 𝕄} {Fr : sProp 𝕄} (v2 v24 c32_i32_20 : BitVec 32)
    (h : ∀ r, iprop(recs m ρ K ∗ SA c 12 ∗ Fr) ⊢ Q r) :
    iprop(recs m ρ K ∗ SA c 6 ∗ Fr) ⊢ WP c (k0_part2 xM (Memref.isWhole_whole _) oM (Memref.isWhole_whole _) cM (Memref.isWhole_whole _) bM (Memref.isWhole_whole _) cc0_scratch2 cc0_scratch3 c v2 (SemArray.scalar (sig.barrier 0 rfl)) v24 c32_i32_20) Q := by
  rw [k0_part2_eq_skeleton]; unfold k0_part2_skel
  simp only [semSignalWord, Prog.lift, Prog.bind_op, Prog.bind_ret, Prog.pure_eq_ret]
  refine step_signal m ρ K c 6 (by decide) (by decide) _ (Fin.ext (k0_dev6_eq c)) ?_
  refine step_signal m ρ K c 7 (by decide) (by decide) _ (Fin.ext (k0_dev7_eq c)) ?_
  refine step_signal m ρ K c 8 (by decide) (by decide) _ (Fin.ext (k0_dev8_eq c)) ?_
  refine step_signal m ρ K c 9 (by decide) (by decide) _ (Fin.ext (k0_dev9_eq c)) ?_
  refine step_signal m ρ K c 10 (by decide) (by decide) _ (Fin.ext (k0_dev10_eq c)) ?_
  refine step_signal m ρ K c 11 (by decide) (by decide) _ (Fin.ext (k0_dev11_eq c)) ?_
  exact done c (h _)

/-- The signals 12 to 17. -/
theorem part3 {Q : _ → sProp 𝕄} {Fr : sProp 𝕄} (v2 v48 c32_i32_44 : BitVec 32)
    (h : ∀ r, iprop(recs m ρ K ∗ SA c 18 ∗ Fr) ⊢ Q r) :
    iprop(recs m ρ K ∗ SA c 12 ∗ Fr) ⊢ WP c (k0_part3 xM (Memref.isWhole_whole _) oM (Memref.isWhole_whole _) cM (Memref.isWhole_whole _) bM (Memref.isWhole_whole _) cc0_scratch2 cc0_scratch3 c v2 (SemArray.scalar (sig.barrier 0 rfl)) v48 c32_i32_44) Q := by
  rw [k0_part3_eq_skeleton]; unfold k0_part3_skel
  simp only [semSignalWord, Prog.lift, Prog.bind_op, Prog.bind_ret, Prog.pure_eq_ret]
  refine step_signal m ρ K c 12 (by decide) (by decide) _ (Fin.ext (k0_dev12_eq c)) ?_
  refine step_signal m ρ K c 13 (by decide) (by decide) _ (Fin.ext (k0_dev13_eq c)) ?_
  refine step_signal m ρ K c 14 (by decide) (by decide) _ (Fin.ext (k0_dev14_eq c)) ?_
  refine step_signal m ρ K c 15 (by decide) (by decide) _ (Fin.ext (k0_dev15_eq c)) ?_
  refine step_signal m ρ K c 16 (by decide) (by decide) _ (Fin.ext (k0_dev16_eq c)) ?_
  refine step_signal m ρ K c 17 (by decide) (by decide) _ (Fin.ext (k0_dev17_eq c)) ?_
  exact done c (h _)

/-- The signals 18 to 23. -/
theorem part4 {Q : _ → sProp 𝕄} {Fr : sProp 𝕄} (v2 v72 c32_i32_68 : BitVec 32)
    (h : ∀ r, iprop(recs m ρ K ∗ SA c 24 ∗ Fr) ⊢ Q r) :
    iprop(recs m ρ K ∗ SA c 18 ∗ Fr) ⊢ WP c (k0_part4 xM (Memref.isWhole_whole _) oM (Memref.isWhole_whole _) cM (Memref.isWhole_whole _) bM (Memref.isWhole_whole _) cc0_scratch2 cc0_scratch3 c v2 (SemArray.scalar (sig.barrier 0 rfl)) v72 c32_i32_68) Q := by
  rw [k0_part4_eq_skeleton]; unfold k0_part4_skel
  simp only [semSignalWord, Prog.lift, Prog.bind_op, Prog.bind_ret, Prog.pure_eq_ret]
  refine step_signal m ρ K c 18 (by decide) (by decide) _ (Fin.ext (k0_dev18_eq c)) ?_
  refine step_signal m ρ K c 19 (by decide) (by decide) _ (Fin.ext (k0_dev19_eq c)) ?_
  refine step_signal m ρ K c 20 (by decide) (by decide) _ (Fin.ext (k0_dev20_eq c)) ?_
  refine step_signal m ρ K c 21 (by decide) (by decide) _ (Fin.ext (k0_dev21_eq c)) ?_
  refine step_signal m ρ K c 22 (by decide) (by decide) _ (Fin.ext (k0_dev22_eq c)) ?_
  refine step_signal m ρ K c 23 (by decide) (by decide) _ (Fin.ext (k0_dev23_eq c)) ?_
  exact done c (h _)

/-- The signals 24 to 29. -/
theorem part5 {Q : _ → sProp 𝕄} {Fr : sProp 𝕄} (v2 v96 c32_i32_92 : BitVec 32)
    (h : ∀ r, iprop(recs m ρ K ∗ SA c 30 ∗ Fr) ⊢ Q r) :
    iprop(recs m ρ K ∗ SA c 24 ∗ Fr) ⊢ WP c (k0_part5 xM (Memref.isWhole_whole _) oM (Memref.isWhole_whole _) cM (Memref.isWhole_whole _) bM (Memref.isWhole_whole _) cc0_scratch2 cc0_scratch3 c v2 (SemArray.scalar (sig.barrier 0 rfl)) v96 c32_i32_92) Q := by
  rw [k0_part5_eq_skeleton]; unfold k0_part5_skel
  simp only [semSignalWord, Prog.lift, Prog.bind_op, Prog.bind_ret, Prog.pure_eq_ret]
  refine step_signal m ρ K c 24 (by decide) (by decide) _ (Fin.ext (k0_dev24_eq c)) ?_
  refine step_signal m ρ K c 25 (by decide) (by decide) _ (Fin.ext (k0_dev25_eq c)) ?_
  refine step_signal m ρ K c 26 (by decide) (by decide) _ (Fin.ext (k0_dev26_eq c)) ?_
  refine step_signal m ρ K c 27 (by decide) (by decide) _ (Fin.ext (k0_dev27_eq c)) ?_
  refine step_signal m ρ K c 28 (by decide) (by decide) _ (Fin.ext (k0_dev28_eq c)) ?_
  refine step_signal m ρ K c 29 (by decide) (by decide) _ (Fin.ext (k0_dev29_eq c)) ?_
  exact done c (h _)

/-- The transfers into the slots 3 to 5. -/
theorem part8 {Q : _ → sProp 𝕄} {Fr : sProp 𝕄} (v2 : BitVec 32)
    (h : ∀ r, iprop(recs m ρ K ∗ SC m ρ c 6 ∗ Fr) ⊢ Q r) :
    iprop(recs m ρ K ∗ SC m ρ c 3 ∗ Fr) ⊢ WP c (k0_part8 xM (Memref.isWhole_whole _) oM (Memref.isWhole_whole _) cM (Memref.isWhole_whole _) bM (Memref.isWhole_whole _) cc0_scratch2 cc0_scratch3 c v2) Q := by
  rw [k0_part8_eq_skeleton]; unfold k0_part8_skel
  simp only [Prog.lift, Prog.bind_op, Prog.bind_ret, Prog.pure_eq_ret]
  refine step_copy m ρ K c 3 (by decide) (by decide) _ (Fin.ext (k0_dev34_eq c)) ?_
  refine step_copy m ρ K c 4 (by decide) (by decide) _ (Fin.ext (k0_dev35_eq c)) ?_
  refine step_copy m ρ K c 5 (by decide) (by decide) _ (Fin.ext (k0_dev36_eq c)) ?_
  exact done c (h _)

/-- The transfers into the slots 6 to 8. -/
theorem part9 {Q : _ → sProp 𝕄} {Fr : sProp 𝕄} (v2 : BitVec 32)
    (h : ∀ r, iprop(recs m ρ K ∗ SC m ρ c 9 ∗ Fr) ⊢ Q r) :
    iprop(recs m ρ K ∗ SC m ρ c 6 ∗ Fr) ⊢ WP c (k0_part9 xM (Memref.isWhole_whole _) oM (Memref.isWhole_whole _) cM (Memref.isWhole_whole _) bM (Memref.isWhole_whole _) cc0_scratch2 cc0_scratch3 c v2) Q := by
  rw [k0_part9_eq_skeleton]; unfold k0_part9_skel
  simp only [Prog.lift, Prog.bind_op, Prog.bind_ret, Prog.pure_eq_ret]
  refine step_copy m ρ K c 6 (by decide) (by decide) _ (Fin.ext (k0_dev37_eq c)) ?_
  refine step_copy m ρ K c 7 (by decide) (by decide) _ (Fin.ext (k0_dev38_eq c)) ?_
  refine step_copy m ρ K c 8 (by decide) (by decide) _ (Fin.ext (k0_dev39_eq c)) ?_
  exact done c (h _)

/-- The transfers into the slots 9 to 11. -/
theorem part10 {Q : _ → sProp 𝕄} {Fr : sProp 𝕄} (v2 : BitVec 32)
    (h : ∀ r, iprop(recs m ρ K ∗ SC m ρ c 12 ∗ Fr) ⊢ Q r) :
    iprop(recs m ρ K ∗ SC m ρ c 9 ∗ Fr) ⊢ WP c (k0_part10 xM (Memref.isWhole_whole _) oM (Memref.isWhole_whole _) cM (Memref.isWhole_whole _) bM (Memref.isWhole_whole _) cc0_scratch2 cc0_scratch3 c v2) Q := by
  rw [k0_part10_eq_skeleton]; unfold k0_part10_skel
  simp only [Prog.lift, Prog.bind_op, Prog.bind_ret, Prog.pure_eq_ret]
  refine step_copy m ρ K c 9 (by decide) (by decide) _ (Fin.ext (k0_dev40_eq c)) ?_
  refine step_copy m ρ K c 10 (by decide) (by decide) _ (Fin.ext (k0_dev41_eq c)) ?_
  refine step_copy m ρ K c 11 (by decide) (by decide) _ (Fin.ext (k0_dev42_eq c)) ?_
  exact done c (h _)

/-- The transfers into the slots 12 to 14. -/
theorem part11 {Q : _ → sProp 𝕄} {Fr : sProp 𝕄} (v2 : BitVec 32)
    (h : ∀ r, iprop(recs m ρ K ∗ SC m ρ c 15 ∗ Fr) ⊢ Q r) :
    iprop(recs m ρ K ∗ SC m ρ c 12 ∗ Fr) ⊢ WP c (k0_part11 xM (Memref.isWhole_whole _) oM (Memref.isWhole_whole _) cM (Memref.isWhole_whole _) bM (Memref.isWhole_whole _) cc0_scratch2 cc0_scratch3 c v2) Q := by
  rw [k0_part11_eq_skeleton]; unfold k0_part11_skel
  simp only [Prog.lift, Prog.bind_op, Prog.bind_ret, Prog.pure_eq_ret]
  refine step_copy m ρ K c 12 (by decide) (by decide) _ (Fin.ext (k0_dev43_eq c)) ?_
  refine step_copy m ρ K c 13 (by decide) (by decide) _ (Fin.ext (k0_dev44_eq c)) ?_
  refine step_copy m ρ K c 14 (by decide) (by decide) _ (Fin.ext (k0_dev45_eq c)) ?_
  exact done c (h _)

/-- The transfers into the slots 15 to 17. -/
theorem part12 {Q : _ → sProp 𝕄} {Fr : sProp 𝕄} (v2 : BitVec 32)
    (h : ∀ r, iprop(recs m ρ K ∗ SC m ρ c 18 ∗ Fr) ⊢ Q r) :
    iprop(recs m ρ K ∗ SC m ρ c 15 ∗ Fr) ⊢ WP c (k0_part12 xM (Memref.isWhole_whole _) oM (Memref.isWhole_whole _) cM (Memref.isWhole_whole _) bM (Memref.isWhole_whole _) cc0_scratch2 cc0_scratch3 c v2) Q := by
  rw [k0_part12_eq_skeleton]; unfold k0_part12_skel
  simp only [Prog.lift, Prog.bind_op, Prog.bind_ret, Prog.pure_eq_ret]
  refine step_copy m ρ K c 15 (by decide) (by decide) _ (Fin.ext (k0_dev46_eq c)) ?_
  refine step_copy m ρ K c 16 (by decide) (by decide) _ (Fin.ext (k0_dev47_eq c)) ?_
  refine step_copy m ρ K c 17 (by decide) (by decide) _ (Fin.ext (k0_dev48_eq c)) ?_
  exact done c (h _)

/-- The transfers into the slots 18 to 20. -/
theorem part13 {Q : _ → sProp 𝕄} {Fr : sProp 𝕄} (v2 : BitVec 32)
    (h : ∀ r, iprop(recs m ρ K ∗ SC m ρ c 21 ∗ Fr) ⊢ Q r) :
    iprop(recs m ρ K ∗ SC m ρ c 18 ∗ Fr) ⊢ WP c (k0_part13 xM (Memref.isWhole_whole _) oM (Memref.isWhole_whole _) cM (Memref.isWhole_whole _) bM (Memref.isWhole_whole _) cc0_scratch2 cc0_scratch3 c v2) Q := by
  rw [k0_part13_eq_skeleton]; unfold k0_part13_skel
  simp only [Prog.lift, Prog.bind_op, Prog.bind_ret, Prog.pure_eq_ret]
  refine step_copy m ρ K c 18 (by decide) (by decide) _ (Fin.ext (k0_dev49_eq c)) ?_
  refine step_copy m ρ K c 19 (by decide) (by decide) _ (Fin.ext (k0_dev50_eq c)) ?_
  refine step_copy m ρ K c 20 (by decide) (by decide) _ (Fin.ext (k0_dev51_eq c)) ?_
  exact done c (h _)

/-- The transfers into the slots 21 to 23. -/
theorem part14 {Q : _ → sProp 𝕄} {Fr : sProp 𝕄} (v2 : BitVec 32)
    (h : ∀ r, iprop(recs m ρ K ∗ SC m ρ c 24 ∗ Fr) ⊢ Q r) :
    iprop(recs m ρ K ∗ SC m ρ c 21 ∗ Fr) ⊢ WP c (k0_part14 xM (Memref.isWhole_whole _) oM (Memref.isWhole_whole _) cM (Memref.isWhole_whole _) bM (Memref.isWhole_whole _) cc0_scratch2 cc0_scratch3 c v2) Q := by
  rw [k0_part14_eq_skeleton]; unfold k0_part14_skel
  simp only [Prog.lift, Prog.bind_op, Prog.bind_ret, Prog.pure_eq_ret]
  refine step_copy m ρ K c 21 (by decide) (by decide) _ (Fin.ext (k0_dev52_eq c)) ?_
  refine step_copy m ρ K c 22 (by decide) (by decide) _ (Fin.ext (k0_dev53_eq c)) ?_
  refine step_copy m ρ K c 23 (by decide) (by decide) _ (Fin.ext (k0_dev54_eq c)) ?_
  exact done c (h _)

/-- The transfers into the slots 24 to 26. -/
theorem part15 {Q : _ → sProp 𝕄} {Fr : sProp 𝕄} (v2 : BitVec 32)
    (h : ∀ r, iprop(recs m ρ K ∗ SC m ρ c 27 ∗ Fr) ⊢ Q r) :
    iprop(recs m ρ K ∗ SC m ρ c 24 ∗ Fr) ⊢ WP c (k0_part15 xM (Memref.isWhole_whole _) oM (Memref.isWhole_whole _) cM (Memref.isWhole_whole _) bM (Memref.isWhole_whole _) cc0_scratch2 cc0_scratch3 c v2) Q := by
  rw [k0_part15_eq_skeleton]; unfold k0_part15_skel
  simp only [Prog.lift, Prog.bind_op, Prog.bind_ret, Prog.pure_eq_ret]
  refine step_copy m ρ K c 24 (by decide) (by decide) _ (Fin.ext (k0_dev55_eq c)) ?_
  refine step_copy m ρ K c 25 (by decide) (by decide) _ (Fin.ext (k0_dev56_eq c)) ?_
  refine step_copy m ρ K c 26 (by decide) (by decide) _ (Fin.ext (k0_dev57_eq c)) ?_
  exact done c (h _)

/-- The transfers into the slots 27 to 29. -/
theorem part16 {Q : _ → sProp 𝕄} {Fr : sProp 𝕄} (v2 : BitVec 32)
    (h : ∀ r, iprop(recs m ρ K ∗ SC m ρ c 30 ∗ Fr) ⊢ Q r) :
    iprop(recs m ρ K ∗ SC m ρ c 27 ∗ Fr) ⊢ WP c (k0_part16 xM (Memref.isWhole_whole _) oM (Memref.isWhole_whole _) cM (Memref.isWhole_whole _) bM (Memref.isWhole_whole _) cc0_scratch2 cc0_scratch3 c v2) Q := by
  rw [k0_part16_eq_skeleton]; unfold k0_part16_skel
  simp only [Prog.lift, Prog.bind_op, Prog.bind_ret, Prog.pure_eq_ret]
  refine step_copy m ρ K c 27 (by decide) (by decide) _ (Fin.ext (k0_dev58_eq c)) ?_
  refine step_copy m ρ K c 28 (by decide) (by decide) _ (Fin.ext (k0_dev59_eq c)) ?_
  refine step_copy m ρ K c 29 (by decide) (by decide) _ (Fin.ext (k0_dev60_eq c)) ?_
  exact done c (h _)

/-- The waits for the slots 3 to 6. -/
theorem part18 {Q : _ → sProp 𝕄} {Fr : sProp 𝕄} (v185 v195 v205 v215 v476 c0_i32_434 : BitVec 32)
    (h : ∀ r, iprop(recs m ρ K ∗ SD m ρ c 7 ∗ Fr) ⊢ Q r) :
    iprop(recs m ρ K ∗ SD m ρ c 3 ∗ Fr) ⊢ WP c (k0_part18 xM (Memref.isWhole_whole _) oM (Memref.isWhole_whole _) cM (Memref.isWhole_whole _) bM (Memref.isWhole_whole _) cc0_scratch2 cc0_scratch3 v185 v195 v205 v215 v476 c0_i32_434) Q := by
  rw [k0_part18_eq_skeleton]; unfold k0_part18_skel
  simp only [Prog.lift, Prog.bind_op, Prog.bind_ret, Prog.pure_eq_ret]
  refine step_recv m ρ K c 3 (by decide) (by decide) ?_
  refine step_recv m ρ K c 4 (by decide) (by decide) ?_
  refine step_recv m ρ K c 5 (by decide) (by decide) ?_
  refine step_recv m ρ K c 6 (by decide) (by decide) ?_
  exact done c (h _)

/-- The waits for the slots 7 to 11. -/
theorem part19 {Q : _ → sProp 𝕄} {Fr : sProp 𝕄} (v225 v235 v245 v255 : BitVec 32)
    (h : ∀ r, iprop(recs m ρ K ∗ SD m ρ c 12 ∗ Fr) ⊢ Q r) :
    iprop(recs m ρ K ∗ SD m ρ c 7 ∗ Fr) ⊢ WP c (k0_part19 xM (Memref.isWhole_whole _) oM (Memref.isWhole_whole _) cM (Memref.isWhole_whole _) bM (Memref.isWhole_whole _) cc0_scratch2 cc0_scratch3 v225 v235 v245 v255) Q := by
  rw [k0_part19_eq_skeleton]; unfold k0_part19_skel
  simp only [Prog.lift, Prog.bind_op, Prog.bind_ret, Prog.pure_eq_ret]
  refine step_recv m ρ K c 7 (by decide) (by decide) ?_
  refine step_recv m ρ K c 8 (by decide) (by decide) ?_
  refine step_recv m ρ K c 9 (by decide) (by decide) ?_
  refine step_recv m ρ K c 10 (by decide) (by decide) ?_
  refine step_recv m ρ K c 11 (by decide) (by decide) ?_
  exact done c (h _)

/-- The waits for the slots 12 to 15. -/
theorem part20 {Q : _ → sProp 𝕄} {Fr : sProp 𝕄} (v265 v275 v285 v295 : BitVec 32)
    (h : ∀ r, iprop(recs m ρ K ∗ SD m ρ c 16 ∗ Fr) ⊢ Q r) :
    iprop(recs m ρ K ∗ SD m ρ c 12 ∗ Fr) ⊢ WP c (k0_part20 xM (Memref.isWhole_whole _) oM (Memref.isWhole_whole _) cM (Memref.isWhole_whole _) bM (Memref.isWhole_whole _) cc0_scratch2 cc0_scratch3 v265 v275 v285 v295) Q := by
  rw [k0_part20_eq_skeleton]; unfold k0_part20_skel
  simp only [Prog.lift, Prog.bind_op, Prog.bind_ret, Prog.pure_eq_ret]
  refine step_recv m ρ K c 12 (by decide) (by decide) ?_
  refine step_recv m ρ K c 13 (by decide) (by decide) ?_
  refine step_recv m ρ K c 14 (by decide) (by decide) ?_
  refine step_recv m ρ K c 15 (by decide) (by decide) ?_
  exact done c (h _)

/-- The waits for the slots 16 to 19. -/
theorem part21 {Q : _ → sProp 𝕄} {Fr : sProp 𝕄} (v305 v315 v325 v335 v345 c1_i32_524 : BitVec 32)
    (h : ∀ r, iprop(recs m ρ K ∗ SD m ρ c 20 ∗ Fr) ⊢ Q r) :
    iprop(recs m ρ K ∗ SD m ρ c 16 ∗ Fr) ⊢ WP c (k0_part21 xM (Memref.isWhole_whole _) oM (Memref.isWhole_whole _) cM (Memref.isWhole_whole _) bM (Memref.isWhole_whole _) cc0_scratch2 cc0_scratch3 v305 v315 v325 v335 v345 c1_i32_524) Q := by
  rw [k0_part21_eq_skeleton]; unfold k0_part21_skel
  simp only [Prog.lift, Prog.bind_op, Prog.bind_ret, Prog.pure_eq_ret]
  refine step_recv m ρ K c 16 (by decide) (by decide) ?_
  refine step_recv m ρ K c 17 (by decide) (by decide) ?_
  refine step_recv m ρ K c 18 (by decide) (by decide) ?_
  refine step_recv m ρ K c 19 (by decide) (by decide) ?_
  exact done c (h _)

/-- The waits for the slots 20 to 23. -/
theorem part22 {Q : _ → sProp 𝕄} {Fr : sProp 𝕄} (v355 v365 v375 v385 : BitVec 32)
    (h : ∀ r, iprop(recs m ρ K ∗ SD m ρ c 24 ∗ Fr) ⊢ Q r) :
    iprop(recs m ρ K ∗ SD m ρ c 20 ∗ Fr) ⊢ WP c (k0_part22 xM (Memref.isWhole_whole _) oM (Memref.isWhole_whole _) cM (Memref.isWhole_whole _) bM (Memref.isWhole_whole _) cc0_scratch2 cc0_scratch3 v355 v365 v375 v385) Q := by
  rw [k0_part22_eq_skeleton]; unfold k0_part22_skel
  simp only [Prog.lift, Prog.bind_op, Prog.bind_ret, Prog.pure_eq_ret]
  refine step_recv m ρ K c 20 (by decide) (by decide) ?_
  refine step_recv m ρ K c 21 (by decide) (by decide) ?_
  refine step_recv m ρ K c 22 (by decide) (by decide) ?_
  refine step_recv m ρ K c 23 (by decide) (by decide) ?_
  exact done c (h _)

/-- The waits for the slots 24 to 28. -/
theorem part23 {Q : _ → sProp 𝕄} {Fr : sProp 𝕄} (v395 v405 v415 v425 : BitVec 32)
    (h : ∀ r, iprop(recs m ρ K ∗ SD m ρ c 29 ∗ Fr) ⊢ Q r) :
    iprop(recs m ρ K ∗ SD m ρ c 24 ∗ Fr) ⊢ WP c (k0_part23 xM (Memref.isWhole_whole _) oM (Memref.isWhole_whole _) cM (Memref.isWhole_whole _) bM (Memref.isWhole_whole _) cc0_scratch2 cc0_scratch3 v395 v405 v415 v425) Q := by
  rw [k0_part23_eq_skeleton]; unfold k0_part23_skel
  simp only [Prog.lift, Prog.bind_op, Prog.bind_ret, Prog.pure_eq_ret]
  refine step_recv m ρ K c 24 (by decide) (by decide) ?_
  refine step_recv m ρ K c 25 (by decide) (by decide) ?_
  refine step_recv m ρ K c 26 (by decide) (by decide) ?_
  refine step_recv m ρ K c 27 (by decide) (by decide) ?_
  refine step_recv m ρ K c 28 (by decide) (by decide) ?_
  exact done c (h _)

/-- The waits for the transfers 5 to 10. -/
theorem part26 {Q : _ → sProp 𝕄} {Fr : sProp 𝕄}
    (h : ∀ r, iprop(recs m ρ K ∗ SF m ρ c 11 ∗ Fr) ⊢ Q r) :
    iprop(recs m ρ K ∗ SF m ρ c 5 ∗ Fr) ⊢ WP c (k0_part26 xM (Memref.isWhole_whole _) oM (Memref.isWhole_whole _) cM (Memref.isWhole_whole _) bM (Memref.isWhole_whole _) cc0_scratch2 cc0_scratch3) Q := by
  rw [k0_part26_eq_skeleton]; unfold k0_part26_skel
  simp only [Prog.lift, Prog.bind_op, Prog.bind_ret, Prog.pure_eq_ret]
  refine step_sent m ρ K c 5 (by decide) (by decide) ?_
  refine step_sent m ρ K c 6 (by decide) (by decide) ?_
  refine step_sent m ρ K c 7 (by decide) (by decide) ?_
  refine step_sent m ρ K c 8 (by decide) (by decide) ?_
  refine step_sent m ρ K c 9 (by decide) (by decide) ?_
  refine step_sent m ρ K c 10 (by decide) (by decide) ?_
  exact done c (h _)

/-- The waits for the transfers 11 to 15. -/
theorem part27 {Q : _ → sProp 𝕄} {Fr : sProp 𝕄}
    (h : ∀ r, iprop(recs m ρ K ∗ SF m ρ c 16 ∗ Fr) ⊢ Q r) :
    iprop(recs m ρ K ∗ SF m ρ c 11 ∗ Fr) ⊢ WP c (k0_part27 xM (Memref.isWhole_whole _) oM (Memref.isWhole_whole _) cM (Memref.isWhole_whole _) bM (Memref.isWhole_whole _) cc0_scratch2 cc0_scratch3) Q := by
  rw [k0_part27_eq_skeleton]; unfold k0_part27_skel
  simp only [Prog.lift, Prog.bind_op, Prog.bind_ret, Prog.pure_eq_ret]
  refine step_sent m ρ K c 11 (by decide) (by decide) ?_
  refine step_sent m ρ K c 12 (by decide) (by decide) ?_
  refine step_sent m ρ K c 13 (by decide) (by decide) ?_
  refine step_sent m ρ K c 14 (by decide) (by decide) ?_
  refine step_sent m ρ K c 15 (by decide) (by decide) ?_
  exact done c (h _)

/-- The waits for the transfers 16 to 20. -/
theorem part28 {Q : _ → sProp 𝕄} {Fr : sProp 𝕄}
    (h : ∀ r, iprop(recs m ρ K ∗ SF m ρ c 21 ∗ Fr) ⊢ Q r) :
    iprop(recs m ρ K ∗ SF m ρ c 16 ∗ Fr) ⊢ WP c (k0_part28 xM (Memref.isWhole_whole _) oM (Memref.isWhole_whole _) cM (Memref.isWhole_whole _) bM (Memref.isWhole_whole _) cc0_scratch2 cc0_scratch3) Q := by
  rw [k0_part28_eq_skeleton]; unfold k0_part28_skel
  simp only [Prog.lift, Prog.bind_op, Prog.bind_ret, Prog.pure_eq_ret]
  refine step_sent m ρ K c 16 (by decide) (by decide) ?_
  refine step_sent m ρ K c 17 (by decide) (by decide) ?_
  refine step_sent m ρ K c 18 (by decide) (by decide) ?_
  refine step_sent m ρ K c 19 (by decide) (by decide) ?_
  refine step_sent m ρ K c 20 (by decide) (by decide) ?_
  exact done c (h _)

/-- The waits for the transfers 21 to 26. -/
theorem part29 {Q : _ → sProp 𝕄} {Fr : sProp 𝕄}
    (h : ∀ r, iprop(recs m ρ K ∗ SF m ρ c 27 ∗ Fr) ⊢ Q r) :
    iprop(recs m ρ K ∗ SF m ρ c 21 ∗ Fr) ⊢ WP c (k0_part29 xM (Memref.isWhole_whole _) oM (Memref.isWhole_whole _) cM (Memref.isWhole_whole _) bM (Memref.isWhole_whole _) cc0_scratch2 cc0_scratch3) Q := by
  rw [k0_part29_eq_skeleton]; unfold k0_part29_skel
  simp only [Prog.lift, Prog.bind_op, Prog.bind_ret, Prog.pure_eq_ret]
  refine step_sent m ρ K c 21 (by decide) (by decide) ?_
  refine step_sent m ρ K c 22 (by decide) (by decide) ?_
  refine step_sent m ρ K c 23 (by decide) (by decide) ?_
  refine step_sent m ρ K c 24 (by decide) (by decide) ?_
  refine step_sent m ρ K c 25 (by decide) (by decide) ?_
  refine step_sent m ρ K c 26 (by decide) (by decide) ?_
  exact done c (h _)

end

end Cert.KernelIdeal.Exchange

end
-- ==== Proof.KernelIdeal.Local.lean ====
/-
# The parts of the kernel that work on the device's own buffers

The device reduces its block and stores its two rows; after the exchange it combines the rows of all devices.
-/
module

public import proofs.«01_k».proof.Proof.KernelIdeal.Parts

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section

variable (K : Dev nD × CK → ℕ) (c : Dev nD)

/-- Device `c`'s block, in the first staging buffer. -/
def blockPts : sProp 𝕄 := ((c : Thread nD τ).loc cc0_stg0_0) ↦{fullShare} xstg m ρ c
/-- Device `c`'s result buffer, holding `g`. -/
def resPts (g : Buf (Elt F) ((c : Thread nD τ).loc cc0_stg1_0)) : sProp 𝕄 := ((c : Thread nD τ).loc cc0_stg1_0) ↦{fullShare} g

omit [FloatOps F] in
theorem pairs (s : Finset (Fin 32)) (Φ Ψ : Fin 32 → sProp 𝕄) : bigSep s (fun j => iprop(Φ j ∗ Ψ j)) = iprop(bigSep s Φ ∗ bigSep s Ψ) := bigSep_sep' s Φ Ψ

/-! ## The last two signals, and the device's own reductions -/

/-- What the first local part works on: the block, the send buffer and the device's own slot. -/
def LocA : sProp 𝕄 := iprop(blockPts m ρ c ∗ (∃ f, rowsPts (F := F) c fullShare f) ∗ ∃ f, slotPts (F := F) c 0 f)
/-- What it leaves: the send buffer filled, and the first row of the device's own slot written. -/
def LocB : sProp 𝕄 :=
  iprop(blockPts m ρ c ∗ rowsPts c fullShare (sendAt m ρ c)
    ∗ ∃ f, slotPts c 0 ((cM.access rS0 : View sig .tc _ _ _).write (Elt F) f (k0_pay6 (xstg m ρ c)) Finset.univ))

omit [FloatOps F] in
theorem sig_end : SA (F := F) c 32 = ow c (OR c 1) := by
  unfold SA; rw [OB_end, add_zero, fr_end, bigSep_empty]; exact sep_emp_eq (ow c (OR c 1))

/-- The signals 30 and 31, and the device's rows stored. -/
theorem part6 {Q : _ → sProp 𝕄} {Fr : sProp 𝕄} (v120 w : BitVec 32)
    (h : ∀ v, iprop(recs m ρ K ∗ ow c (OR c 1) ∗ LocB m ρ c ∗ Fr) ⊢ Q ⟨k0_pay3 (vdev c) (xstg m ρ c), v⟩) :
    iprop(recs m ρ K ∗ SA c 30 ∗ LocA m ρ c ∗ Fr) ⊢ WP c (k0_part6 xM (Memref.isWhole_whole _) oM (Memref.isWhole_whole _) cM (Memref.isWhole_whole _) bM (Memref.isWhole_whole _) cc0_scratch2 cc0_scratch3 c (vdev c) (SemArray.scalar (sig.barrier 0 rfl)) v120 w) Q := by
  rw [k0_part6_eq_skeleton]; unfold k0_part6_skel
  simp only [semSignalWord, Prog.lift, Prog.bind_op, Prog.bind_ret, Prog.pure_eq_ret]
  refine step_signal m ρ K c 30 (by decide) (by decide) _ (Fin.ext (k0_dev30_eq c)) ?_
  refine step_signal m ρ K c 31 (by decide) (by decide) _ (Fin.ext (k0_dev31_eq c)) ?_
  rw [sig_end]
  unfold LocA blockPts rowsPts slotPts
  iintro ⟨#HR, HO, ⟨Hx, ⟨%fb, Hb⟩, ⟨%fs, Hs⟩⟩, HF⟩
  iapply (wp_load 𝒱₀ (c : Thread nD τ) none Set.univ (m := xM) (Finset.subset_univ _)) $$ Hx; iintro Hx
  rw [read_x]
  iapply (wp_load 𝒱₀ (c : Thread nD τ) none Set.univ (m := bM) (by rw [View.set_whole]; exact Finset.subset_univ _)) $$ Hb; iintro Hb
  iapply (wp_store 𝒱₀ (c : Thread nD τ) none Set.univ (m := bM) (r := rR0) (Mk := Finset.univ) (by rw [View.set_whole]; exact Finset.subset_univ _)) $$ Hb; iintro Hb
  iapply (wp_load 𝒱₀ (c : Thread nD τ) none Set.univ (m := bM) (by rw [View.set_whole]; exact Finset.subset_univ _)) $$ Hb; iintro Hb
  iapply (wp_store 𝒱₀ (c : Thread nD τ) none Set.univ (m := bM) (r := rR1) (Mk := Finset.univ) (by rw [View.set_whole]; exact Finset.subset_univ _)) $$ Hb; iintro Hb
  iapply (wp_load_rect 𝒱₀ (c : Thread nD τ) none Set.univ (m := cM) (r := rS0) store_slot0_sub0) $$ Hs; iintro Hs
  iapply (wp_store 𝒱₀ (c : Thread nD τ) none Set.univ (m := cM) (r := rS0) (Mk := Finset.univ) store_slot0_sub0) $$ Hs; iintro Hs
  iapply (wp_load_rect 𝒱₀ (c : Thread nD τ) none Set.univ (m := cM) (r := rS1) store_slot0_sub1) $$ Hs; iintro Hs
  iapply (done c (h _))
  unfold LocB blockPts rowsPts slotPts sendAt
  isplitr; · iexact HR
  isplitl [HO]; · iexact HO
  isplitl [Hx Hb Hs]
  · isplitl [Hx]; · iexact Hx
    isplitl [Hb]
    · rw [← store_send fb]; iexact Hb
    iexists fs; iexact Hs
  iexact HF

/-! ## The barrier, and the first transfers -/

/-- What the wait at the barrier needs. -/
def BarW : sProp 𝕄 := iprop(levAts L lv ∗ atPos ER (barCell c) 0 ∅ 0 ∗ cred (tallyAt (barCell c) () 31))
/-- The tokens of the transfers. -/
def Toks : sProp 𝕄 := bigSep (fr 1) fun j : Fin 32 => iprop(dutyTok ER (recvCell (sh c j.val) j) 0 z ∗ dutyTok ER (sendCell c j) 0 z)
/-- The part of the send buffer that no transfer reads. -/
def keep : sProp 𝕄 :=
  iprop(rowsPts c (Transfers.shareDrop fullShare 32) (sendAt m ρ c) ∗ rowsPts c (Transfers.shareTok fullShare 32 (0 : Fin 32)) (sendAt m ρ c))

/-- The send buffer is dealt out: one share to each transfer, the rest kept. -/
theorem rows_split : rowsPts c fullShare (sendAt m ρ c) ⊢ iprop(keep m ρ c ∗ bigSep (fr 1) fun j : Fin 32 => rowsPts c (Transfers.shareTok fullShare 32 j) (sendAt m ρ c)) := by
  refine BIBase.Entails.trans (Transfers.pointsTo_toks_split fullShare 32) ?_
  show iprop(rowsPts c (Transfers.shareDrop fullShare 32) (sendAt m ρ c) ∗ bigSep Finset.univ fun j : Fin 32 => rowsPts c (Transfers.shareTok fullShare 32 j) (sendAt m ρ c)) ⊢ _
  rw [univ_split]; unfold keep
  iintro ⟨H1, H2, H3⟩
  isplitl [H1 H2]
  · isplitl [H1] <;> iassumption
  iexact H3

/-- The shares put back together. -/
theorem rows_join : iprop(keep m ρ c ∗ bigSep (fr 1) fun j : Fin 32 => rowsPts c (Transfers.shareTok fullShare 32 j) (sendAt m ρ c)) ⊢ rowsPts c fullShare (sendAt m ρ c) := by
  refine BIBase.Entails.trans ?_ (Transfers.pointsTo_toks_join fullShare 32)
  show _ ⊢ iprop(rowsPts c (Transfers.shareDrop fullShare 32) (sendAt m ρ c) ∗ bigSep Finset.univ fun j : Fin 32 => rowsPts c (Transfers.shareTok fullShare 32 j) (sendAt m ρ c))
  rw [univ_split]; unfold keep
  iintro ⟨⟨H1, H2⟩, H3⟩
  isplitl [H1]; · iexact H1
  isplitl [H2] <;> iassumption

/-- What the transfers need, gathered slot by slot. -/
theorem copies_ready :
    iprop((bigSep (fr 1) fun j : Fin 32 => iprop(∃ f, slotPts (F := F) (sh c j.val) j f)) ∗ Toks (F := F) c
      ∗ bigSep (fr 1) fun j : Fin 32 => rowsPts c (Transfers.shareTok fullShare 32 j) (sendAt m ρ c))
    ⊢ bigSep (fr 1) (copyPre m ρ c) := by
  unfold Toks
  rw [← pairs, ← pairs]
  refine bigSep_mono fun j _ => ?_
  show iprop((∃ f, slotPts (F := F) (sh c j.val) j f) ∗ (dutyTok ER (recvCell (sh c j.val) j) 0 z ∗ dutyTok ER (sendCell c j) 0 z)
    ∗ rowsPts c (Transfers.shareTok fullShare 32 j) (sendAt m ρ c)) ⊢ copyPre m ρ c j
  unfold copyPre
  iintro ⟨H1, ⟨H2, H3⟩, H4⟩
  isplitl [H1]; · iexact H1
  isplitl [H2]; · iexact H2
  isplitl [H3] <;> iassumption

/-- The device's own slot, once both rows are stored. -/
theorem own_slot (f : Buf (Elt F) ((c : Thread nD τ).loc cc0_scratch0)) :
    (((cM.access rS1).loc (c : Thread nD τ)) ↦[(slotM 0).view.set]{fullShare}
      ((cM.access rS1 : View sig .tc _ _ _).write (Elt F) ((cM.access rS0 : View sig .tc _ _ _).write (Elt F) f
        (k0_pay6 (xstg m ρ c)) Finset.univ) (k0_pay7 (k0_pay3 (vdev c) (xstg m ρ c))) Finset.univ) : sProp 𝕄)
      ⊢ slotPts c 0 (commAt m ρ c) := Entails.of_eq (store_slot0 m ρ c f)

/-- What stays with the device while the transfers are under way. -/
def LocC : sProp 𝕄 := iprop(blockPts m ρ c ∗ slotPts c 0 (commAt m ρ c) ∗ keep m ρ c ∗ semVal (barCell c) 0)

/-- The second row of the device's own slot, the barrier, and the transfers into the slots 1 and 2. -/
theorem part7 {Q : _ → sProp 𝕄} {Fr : sProp 𝕄} (v) (h : ∀ r, iprop(recs m ρ K ∗ SC m ρ c 3 ∗ LocC m ρ c ∗ Fr) ⊢ Q r) :
    iprop(recs m ρ K ∗ ow c (OR c 1) ∗ LocB m ρ c ∗ BarW c ∗ Toks (F := F) c ∗ Fr) ⊢ WP c (k0_part7 xM (Memref.isWhole_whole _) oM (Memref.isWhole_whole _) cM (Memref.isWhole_whole _) bM (Memref.isWhole_whole _) cc0_scratch2 cc0_scratch3 c (vdev c) (SemArray.scalar (sig.barrier 0 rfl)) (k0_pay3 (vdev c) (xstg m ρ c)) v) Q := by
  rw [k0_part7_eq_skeleton]; unfold k0_part7_skel
  simp only [semWaitWord, Prog.lift, Prog.bind_op, Prog.bind_ret, Prog.pure_eq_ret]
  unfold LocB
  iintro ⟨#HR, HO, ⟨Hx, Hb, ⟨%f, Hs⟩⟩, HB, HT, HF⟩
  unfold slotPts
  iapply (wp_store 𝒱₀ (c : Thread nD τ) none Set.univ (m := cM) (r := rS1) (Mk := Finset.univ) store_slot0_sub1) $$ Hs; iintro Hs
  ihave Hs := (own_slot m ρ c f) $$ Hs
  iapply (step_barrier m ρ K c (Fr := iprop(blockPts m ρ c ∗ rowsPts c fullShare (sendAt m ρ c) ∗ slotPts c 0 (commAt m ρ c) ∗ Toks (F := F) c ∗ Fr)) ?_) $$ [HO Hx Hb Hs HB HT HF]
  · iintro ⟨#HR, ⟨HO, Hz, Hsl⟩, Hx, Hb, Hs, HT, HF⟩
    ihave Hb := (rows_split m ρ c) $$ Hb
    icases Hb with ⟨Hk, Hb⟩
    ihave Hc := (copies_ready m ρ c) $$ [Hsl HT Hb]
    · isplitl [Hsl]; · iexact Hsl
      isplitl [HT] <;> iassumption
    iapply (step_copy m ρ K c 1 (by decide) (by decide) _ (Fin.ext (k0_dev32_eq c))
      (step_copy m ρ K c 2 (by decide) (by decide) _ (Fin.ext (k0_dev33_eq c)) (done c (h _))))
    isplitr; · iexact HR
    isplitl [HO Hc]
    · unfold SC
      isplitl [HO]; · iexact HO
      isplitl [Hc]; · iexact Hc
      rw [dn_start, bigSep_empty]; iempintro
    isplitl [Hx Hs Hk Hz]
    · unfold LocC
      isplitl [Hx]; · iexact Hx
      isplitl [Hs]; · iexact Hs
      isplitl [Hk] <;> iassumption
    iexact HF
  · unfold BarW
    isplitr; · iexact HR
    isplitl [HO HB]
    · isplitl [HO] <;> iassumption
    isplitl [Hx]; · iexact Hx
    isplitl [Hb]; · iexact Hb
    isplitl [Hs]; · iexact Hs
    isplitl [HT] <;> iassumption

/-! ## The last transfers, and the first receptions -/

/-- What the waits for the slots need. -/
def RecvW : sProp 𝕄 := bigSep (fr 1) fun j : Fin 32 => iprop(atPos ER (recvCell c j) 0 ∅ 0 ∗ cred (tallyAt (recvCell c j) () N))
/-- The credit of all transfers. -/
def Sent : sProp 𝕄 := bigSep (fr 1) fun j : Fin 32 => cred (tallyAt (sendCell c j) () N)

/-- The transfers into the slots 30 and 31, and the waits for the slots 1 and 2. -/
theorem part17 {Q : _ → sProp 𝕄} {Fr : sProp 𝕄} (v2 v155 v165 v175 : BitVec 32)
    (h : ∀ r, iprop(recs m ρ K ∗ SD m ρ c 3 ∗ Sent c ∗ Fr) ⊢ Q r) :
    iprop(recs m ρ K ∗ SC m ρ c 30 ∗ RecvW c ∗ Fr) ⊢ WP c (k0_part17 xM (Memref.isWhole_whole _) oM (Memref.isWhole_whole _) cM (Memref.isWhole_whole _) bM (Memref.isWhole_whole _) cc0_scratch2 cc0_scratch3 c v2 v155 v165 v175) Q := by
  rw [k0_part17_eq_skeleton]; unfold k0_part17_skel
  simp only [Prog.lift, Prog.bind_op, Prog.bind_ret, Prog.pure_eq_ret]
  refine step_copy m ρ K c 30 (by decide) (by decide) _ (Fin.ext (k0_dev61_eq c)) ?_
  refine step_copy m ρ K c 31 (by decide) (by decide) _ (Fin.ext (k0_dev62_eq c)) ?_
  refine BIBase.Entails.trans ?_ (step_recv m ρ K c 1 (by decide) (by decide) (step_recv m ρ K c 2 (by decide) (by decide) (done c (h _))))
  unfold SC SD RecvW Sent
  rw [OR_end, dn_end, dn_start, bigSep_empty]
  iintro ⟨#HR, ⟨HO, -, Hc⟩, Hw, HF⟩
  isplitr; · iexact HR
  isplitl [HO Hw]
  · isplitl [HO]; · iexact HO
    isplitl [Hw]; · iexact Hw
    iempintro
  isplitl [Hc] <;> iassumption

/-! ## The last receptions, and the combined rows -/

/-- All slots filled are the whole landing buffer. -/
theorem slots_join : iprop(slotPts c 0 (commAt m ρ c) ∗ bigSep (fr 1) fun j : Fin 32 => slotPts c j (commAt m ρ c))
    ⊢ (((c : Thread nD τ).loc cc0_scratch0) ↦{fullShare} commAt m ρ c : sProp 𝕄) := by
  rw [slots_eq, univ_split]

/-- The landing buffer filled, and its semaphores back at zero. -/
def Landed : sProp 𝕄 :=
  iprop((((c : Thread nD τ).loc cc0_scratch0) ↦{fullShare} commAt m ρ c : sProp 𝕄) ∗ bigSep (fr 1) fun j : Fin 32 => semVal (recvCell c j) 0)

/-- The waits for the slots 29 to 31; then the rows of all devices are read and combined. -/
theorem part24 {Q : _ → sProp 𝕄} {Fr : sProp 𝕄} (v435 v445 v455 : BitVec 32)
    (h : iprop(recs m ρ K ∗ ow c 0 ∗ Landed m ρ c ∗ Fr) ⊢ Q ⟨k0_pay9 (commAt m ρ c), k0_pay10 (commAt m ρ c)⟩) :
    iprop(recs m ρ K ∗ SD m ρ c 29 ∗ slotPts c 0 (commAt m ρ c) ∗ Fr) ⊢ WP c (k0_part24 xM (Memref.isWhole_whole _) oM (Memref.isWhole_whole _) cM (Memref.isWhole_whole _) bM (Memref.isWhole_whole _) cc0_scratch2 cc0_scratch3 v435 v445 v455) Q := by
  rw [k0_part24_eq_skeleton]; unfold k0_part24_skel
  simp only [Prog.lift, Prog.bind_op, Prog.bind_ret, Prog.pure_eq_ret]
  refine step_recv m ρ K c 29 (by decide) (by decide) ?_
  refine step_recv m ρ K c 30 (by decide) (by decide) ?_
  refine step_recv m ρ K c 31 (by decide) (by decide) ?_
  unfold SD
  rw [dn_end, fr_end, bigSep_empty, pairs]
  iintro ⟨#HR, ⟨HO, -, Hs, Hz⟩, Hs0, HF⟩
  ihave Hc := (slots_join m ρ c) $$ [Hs0 Hs]
  · isplitl [Hs0] <;> iassumption
  iapply (wp_load 𝒱₀ (c : Thread nD τ) none Set.univ (m := cM) (Finset.subset_univ _)) $$ Hc; iintro Hc
  rw [read_comm]
  iapply (done c h)
  unfold Landed
  isplitr; · iexact HR
  isplitl [HO]; · iexact HO
  isplitl [Hc Hz]
  · isplitl [Hc] <;> iassumption
  iexact HF

/-! ## The result stored, and the first send completions -/

/-- What the waits for the transfers to have left need, besides their credit. -/
def SendW : sProp 𝕄 := bigSep (fr 1) fun j : Fin 32 => atPos ER (sendCell c j) 0 ∅ 0

/-- The result stored, and the waits for the transfers 1 to 4. -/
theorem part25 {Q : _ → sProp 𝕄} {Fr : sProp 𝕄}
    (h : ∀ r, iprop(recs m ρ K ∗ SF m ρ c 5 ∗ resPts c (outAt m ρ c) ∗ Fr) ⊢ Q r) :
    iprop(recs m ρ K ∗ ow c 0 ∗ (∃ g, resPts c g) ∗ SendW (F := F) c ∗ Sent c ∗ Fr) ⊢ WP c (k0_part25 xM (Memref.isWhole_whole _) oM (Memref.isWhole_whole _) cM (Memref.isWhole_whole _) bM (Memref.isWhole_whole _) cc0_scratch2 cc0_scratch3 (k0_pay9 (commAt m ρ c)) (k0_pay10 (commAt m ρ c))) Q := by
  rw [k0_part25_eq_skeleton]; unfold k0_part25_skel
  simp only [Prog.lift, Prog.bind_op, Prog.bind_ret, Prog.pure_eq_ret]
  unfold resPts
  iintro ⟨#HR, HO, ⟨%g, Hg⟩, Hw, Hc, HF⟩
  iapply (wp_load 𝒱₀ (c : Thread nD τ) none Set.univ (m := oM) (Finset.subset_univ _)) $$ Hg; iintro Hg
  iapply (wp_store 𝒱₀ (c : Thread nD τ) none Set.univ (m := oM) (r := rR0) (Mk := Finset.univ) (Finset.subset_univ _)) $$ Hg; iintro Hg
  iapply (wp_load 𝒱₀ (c : Thread nD τ) none Set.univ (m := oM) (Finset.subset_univ _)) $$ Hg; iintro Hg
  iapply (wp_store 𝒱₀ (c : Thread nD τ) none Set.univ (m := oM) (r := rR1) (Mk := Finset.univ) (Finset.subset_univ _)) $$ Hg; iintro Hg
  iapply (step_sent m ρ K c 1 (by decide) (by decide) (step_sent m ρ K c 2 (by decide) (by decide)
    (step_sent m ρ K c 3 (by decide) (by decide) (step_sent m ρ K c 4 (by decide) (by decide) (done c (h _))))))
  unfold SF SendW Sent resPts outAt
  rw [dn_start, bigSep_empty, pairs]
  isplitr; · iexact HR
  isplitl [HO Hw Hc]
  · isplitl [HO]; · iexact HO
    isplitl [Hw Hc]
    · isplitl [Hw] <;> iassumption
    iempintro
  isplitl [Hg]
  · rw [← store_out g]; iexact Hg
  iexact HF

end

end Cert.KernelIdeal.Exchange

end
-- ==== Proof.KernelIdeal.Whole.lean ====
/-
# The kernel's parts, one after another

From what a device starts from to what it ends with.
-/
module

public import proofs.«01_k».proof.Proof.KernelIdeal.Local

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section

variable (K : Dev nD × CK → ℕ) (c : Dev nD)

/-- One part after another. -/
theorem andThen {α β : Type} {P : sProp 𝕄} {p : Prog (TpuEff nD τ sig (Elt F) Λ₀ .tc) α} {k : α → Prog (TpuEff nD τ sig (Elt F) Λ₀ .tc) β} {Q : β → sProp 𝕄}
    (h : P ⊢ WP c p (fun a => WP c (k a) Q)) : P ⊢ WP c (p >>= k) Q := by
  unfold WP at h ⊢; rw [wp_bind]; exact h

/-- What the device holds between its last reception and its result. -/
def LocD : sProp 𝕄 := iprop(blockPts m ρ c ∗ keep m ρ c ∗ semVal (barCell c) 0)

/-- The waits for the slots have what they need. -/
theorem to_recv {Fr : sProp 𝕄} : iprop(recs m ρ K ∗ SC m ρ c 30 ∗ LocC m ρ c ∗ RecvW (F := F) c ∗ Fr) ⊢ iprop(recs m ρ K ∗ SC m ρ c 30 ∗ RecvW c ∗ LocC m ρ c ∗ Fr) := by
  iintro ⟨H1, H2, H3, H4, H5⟩
  isplitl [H1]; · iexact H1
  isplitl [H2]; · iexact H2
  isplitl [H4]; · iexact H4
  isplitl [H3] <;> iassumption

/-- The device's own slot joins the filled ones. -/
theorem to_comm {Fr : sProp 𝕄} : iprop(recs m ρ K ∗ SD m ρ c 29 ∗ Sent (F := F) c ∗ LocC m ρ c ∗ Fr) ⊢ iprop(recs m ρ K ∗ SD m ρ c 29 ∗ slotPts c 0 (commAt m ρ c) ∗ LocD m ρ c ∗ Sent c ∗ Fr) := by
  unfold LocC LocD
  iintro ⟨H1, H2, H3, ⟨H4, H5, H6, H7⟩, H8⟩
  isplitl [H1]; · iexact H1
  isplitl [H2]; · iexact H2
  isplitl [H5]; · iexact H5
  isplitl [H4 H6 H7]
  · isplitl [H4]; · iexact H4
    isplitl [H6] <;> iassumption
  isplitl [H3] <;> iassumption

/-- The result's buffer, and what the waits for the transfers to have left need. -/
theorem to_sent {Fr : sProp 𝕄} : iprop(recs m ρ K ∗ ow c 0 ∗ Landed m ρ c ∗ LocD m ρ c ∗ Sent (F := F) c ∗ SendW (F := F) c ∗ (∃ g, resPts c g) ∗ Fr)
    ⊢ iprop(recs m ρ K ∗ ow c 0 ∗ (∃ g, resPts c g) ∗ SendW (F := F) c ∗ Sent c ∗ Landed m ρ c ∗ LocD m ρ c ∗ Fr) := by
  iintro ⟨H1, H2, H3, H4, H5, H6, H7, H8⟩
  isplitl [H1]; · iexact H1
  isplitl [H2]; · iexact H2
  isplitl [H7]; · iexact H7
  isplitl [H6]; · iexact H6
  isplitl [H5]; · iexact H5
  isplitl [H3]; · iexact H3
  isplitl [H4] <;> iassumption

/-- All parts but the last two waits. -/
theorem part30 {Q : _ → sProp 𝕄} {Fr : sProp 𝕄} (h : ∀ r, iprop(recs m ρ K ∗ SF m ρ c 30 ∗ resPts c (outAt m ρ c) ∗ Landed m ρ c ∗ LocD m ρ c ∗ Fr) ⊢ Q r) :
    iprop(recs m ρ K ∗ SA c 1 ∗ LocA m ρ c ∗ BarW c ∗ Toks c ∗ RecvW c ∗ SendW c ∗ (∃ g, resPts c g) ∗ Fr)
      ⊢ WP c (k0_part30 xM (Memref.isWhole_whole _) oM (Memref.isWhole_whole _) cM (Memref.isWhole_whole _) bM (Memref.isWhole_whole _) cc0_scratch2 cc0_scratch3) Q := by
  rw [k0_part30_eq_skeleton]; unfold k0_part30_skel
  refine andThen c (part1 m ρ K c (fun v w => ?_))
  refine andThen c (part2 m ρ K c _ _ _ (fun r => ?_))
  refine andThen c (part3 m ρ K c _ _ _ (fun r => ?_))
  refine andThen c (part4 m ρ K c _ _ _ (fun r => ?_))
  refine andThen c (part5 m ρ K c _ _ _ (fun r => ?_))
  refine andThen c (part6 m ρ K c _ _ (fun v => ?_))
  refine andThen c (part7 m ρ K c _ (fun r => ?_))
  refine andThen c (part8 m ρ K c _ (fun r => ?_))
  refine andThen c (part9 m ρ K c _ (fun r => ?_))
  refine andThen c (part10 m ρ K c _ (fun r => ?_))
  refine andThen c (part11 m ρ K c _ (fun r => ?_))
  refine andThen c (part12 m ρ K c _ (fun r => ?_))
  refine andThen c (part13 m ρ K c _ (fun r => ?_))
  refine andThen c (part14 m ρ K c _ (fun r => ?_))
  refine andThen c (part15 m ρ K c _ (fun r => ?_))
  refine andThen c (part16 m ρ K c _ (fun r => ?_))
  refine andThen c ((to_recv m ρ K c).trans (part17 m ρ K c _ _ _ _ (fun r => ?_)))
  refine andThen c (part18 m ρ K c _ _ _ _ _ _ (fun r => ?_))
  refine andThen c (part19 m ρ K c _ _ _ _ (fun r => ?_))
  refine andThen c (part20 m ρ K c _ _ _ _ (fun r => ?_))
  refine andThen c (part21 m ρ K c _ _ _ _ _ _ (fun r => ?_))
  refine andThen c (part22 m ρ K c _ _ _ _ (fun r => ?_))
  refine andThen c (part23 m ρ K c _ _ _ _ (fun r => ?_))
  refine andThen c ((to_comm m ρ K c).trans (part24 m ρ K c _ _ _ ?_))
  refine andThen c ((to_sent m ρ K c).trans (part25 m ρ K c (fun r => ?_)))
  refine andThen c (part26 m ρ K c (fun r => ?_))
  refine andThen c (part27 m ρ K c (fun r => ?_))
  refine andThen c (part28 m ρ K c (fun r => ?_))
  refine andThen c (part29 m ρ K c (fun r => ?_))
  simp only [Prog.lift, Prog.bind_op, Prog.bind_ret, Prog.pure_eq_ret]
  refine step_sent m ρ K c 27 (by decide) (by decide) ?_
  refine step_sent m ρ K c 28 (by decide) (by decide) ?_
  refine step_sent m ρ K c 29 (by decide) (by decide) ?_
  exact done c (h _)

set_option maxRecDepth 65536 in
/-- The whole body. -/
theorem body_run {Q : PUnit → sProp 𝕄} {Fr : sProp 𝕄} (h : iprop(recs m ρ K ∗ SF m ρ c 32 ∗ resPts c (outAt m ρ c) ∗ Landed m ρ c ∗ LocD m ρ c ∗ Fr) ⊢ Q ⟨⟩) :
    iprop(recs m ρ K ∗ SA c 1 ∗ LocA m ρ c ∗ BarW c ∗ Toks c ∗ RecvW c ∗ SendW c ∗ (∃ g, resPts c g) ∗ Fr)
      ⊢ WP c (cc0_body xM (Memref.isWhole_whole _) oM (Memref.isWhole_whole _) cM (Memref.isWhole_whole _) bM (Memref.isWhole_whole _) cc0_scratch2 cc0_scratch3) Q := by
  rw [cc0_body_eq_skeleton]; unfold cc0_body_skel
  refine andThen c (part30 m ρ K c (fun r => ?_))
  simp only [Prog.lift, Prog.bind_op, Prog.bind_ret, Prog.pure_eq_ret]
  refine step_sent m ρ K c 30 (by decide) (by decide) ?_
  refine step_sent m ρ K c 31 (by decide) (by decide) ?_
  exact done c h

end

end Cert.KernelIdeal.Exchange

end
-- ==== Proof.KernelIdeal.Body.lean ====
/-
# The body as the region runs it

What a device has at the start and at the end of the region, and the body's proof between them.
-/
module

public import proofs.«01_k».proof.Proof.KernelIdeal.Whole
public import proofs.«01_k».proof.Proof.Gen.KernelIdeal.Launch
public import proofs.«01_k».proof.Proof.Gen.KernelIdeal.Points

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The region's proof data -/

/-- The tokens of the signals device `c` gives. -/
def BarToks (c : Dev nD) : sProp 𝕄 := bigSep (fr 1) fun j : Fin 32 => dutyTok ER (barCell (sh c j.val)) 0 c

/-- Device `c`'s positions in the schedule, and the tokens it pays with. -/
def linear (c : Dev nD) : sProp 𝕄 :=
  iprop(atPos ER (barCell c) 0 ∅ 0 ∗ (bigSep Finset.univ fun j : Fin 32 => atPos ER (sendCell c j) 0 ∅ 0)
    ∗ (bigSep Finset.univ fun j : Fin 32 => atPos ER (recvCell c j) 0 ∅ 0) ∗ BarToks c ∗ Toks c)

/-- The launch's credit for device `c`: its barrier's, and its receive semaphores'. -/
def creds (c : Dev nD) : sProp 𝕄 :=
  iprop(cred (tallyAt (barCell c) () 31) ∗ bigSep (fr 1) fun j : Fin 32 => cred (tallyAt (recvCell c j) () N))

/-- What device `c` starts from besides its buffers. -/
def start (c : Dev nD) : sProp 𝕄 := iprop((∃ K, recs m ρ K ∗ linear c) ∗ creds c ∗ levAts L lv)

/-- The two buffers of the exchange, holding anything. -/
def bufs (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- All semaphores of the exchange at zero. -/
def zeros (c : Dev nD) : sProp 𝕄 :=
  iprop((bigSep Finset.univ fun j : Fin 32 => semVal (sendCell c j) 0) ∗ (bigSep Finset.univ fun j : Fin 32 => semVal (recvCell c j) 0) ∗ semVal (barCell c) 0)

def Φ₀ (c : Dev nD) : sProp 𝕄 := iprop(start m ρ c ∗ bufs c)
def Φ₁ (c : Dev nD) : sProp 𝕄 := iprop(bufs c ∗ zeros c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body's start and end -/

section

variable (K : Dev nD × CK → ℕ) (c : Dev nD)

/-- Counting the slots backwards is a permutation of the slots other than 0. -/
def negE : Fin 32 ↪ Fin 32 := ⟨fun j => neg j.val, by decide⟩
theorem fr_neg : (fr 1).map negE = fr 1 := by decide

/-- The slots other than 0, counted backwards. -/
theorem slots_neg (Φ : Fin 32 → sProp 𝕄) : bigSep (fr 1) Φ = bigSep (fr 1) fun j => Φ (neg j.val) := by
  conv => lhs; rw [← fr_neg]
  exact bigSep_map negE

/-- The landing buffer dealt out: slot 0 to the device itself, the others to the signals. -/
theorem comm_split (f : Buf (Elt F) ((c : Thread nD τ).loc cc0_scratch0)) :
    (((c : Thread nD τ).loc cc0_scratch0) ↦{fullShare} f : sProp 𝕄)
      ⊢ iprop(slotPts c 0 f ∗ bigSep (fr 1) fun j : Fin 32 => iprop(∃ f, slotPts (F := F) c (neg j.val) f)) := by
  rw [slots_eq, univ_split, slots_neg fun k => slotPts c k f]
  refine sep_mono_right (bigSep_mono fun j _ => ?_)
  show slotPts c (neg j.val) f ⊢ iprop(∃ f, slotPts (F := F) c (neg j.val) f)
  iintro H; iexists f; iexact H

/-- The signals have what they need. -/
theorem to_signals : iprop(ow (F := F) c (O₀ c) ∗ BarToks c ∗ bigSep (fr 1) fun j : Fin 32 => iprop(∃ f, slotPts (F := F) c (neg j.val) f)) ⊢ SA c 1 := by
  unfold SA BarToks
  rw [pairs]
  exact .rfl

/-- The waits for the slots have what they need, the position at slot 0 left over. -/
theorem to_recvW : iprop((bigSep Finset.univ fun j : Fin 32 => atPos ER (recvCell c j) 0 ∅ 0) ∗ bigSep (fr 1) fun j : Fin 32 => cred (tallyAt (recvCell c j) () N))
    ⊢ iprop(RecvW (F := F) c ∗ atPos ER (recvCell c 0) 0 ∅ 0) := by
  unfold RecvW
  rw [pairs, univ_split]
  iintro ⟨⟨H0, H1⟩, H2⟩
  isplitl [H1 H2]
  · isplitl [H1] <;> iassumption
  iexact H0

/-- The waits for the transfers to have left have what they need, the position at slot 0 left over. -/
theorem to_sendW : (bigSep Finset.univ fun j : Fin 32 => (atPos ER (sendCell c j) 0 ∅ 0 : sProp 𝕄)) ⊢ iprop(SendW (F := F) c ∗ atPos ER (sendCell c 0) 0 ∅ 0) := by
  unfold SendW
  rw [univ_split]
  iintro ⟨H0, H1⟩
  isplitl [H1] <;> iassumption

/-- The two semaphores of slot 0 are never used: their cells close at zero. -/
theorem close_zero : iprop(recs m ρ K ∗ atPos ER (sendCell c 0) 0 ∅ 0 ∗ atPos ER (recvCell c 0) 0 ∅ 0)
    ⊢ |={Set.univ}=> iprop(semVal (sendCell c 0) 0 ∗ semVal (recvCell c 0) 0) := by
  iintro ⟨#HR, Hs, Hr⟩
  imod (Rounds.cell_close ER (xRd m ρ) (Set.mem_univ (K (c, some (false, 0)))) (fun h => h) (R := 0) (duties_send0 m ρ c)) $$ [Hs] with Hs
  · isplitr; · iapply (inv_at m ρ K (c, some (false, 0))); iexact HR
    iexact Hs
  imod (Rounds.cell_close ER (xRd m ρ) (Set.mem_univ (K (c, some (true, 0)))) (fun h => h) (R := 0) (duties_recv0 m ρ c)) $$ [Hr] with Hr
  · isplitr; · iapply (inv_at m ρ K (c, some (true, 0))); iexact HR
    iexact Hr
  imodintro
  isplitl [Hs] <;> iassumption

/-- What the body ends with: the two buffers whole again, every semaphore at zero, nothing owed. -/
theorem finish : iprop(recs m ρ K ∗ SF m ρ c 32 ∗ resPts c (outAt m ρ c) ∗ Landed m ρ c ∗ LocD m ρ c ∗ semVal (sendCell c 0) 0 ∗ semVal (recvCell c 0) 0)
    ⊢ iprop(Φ₁ (F := F) c ∗ ow c 0 ∗ blockPts m ρ c ∗ resPts c (outAt m ρ c)) := by
  unfold SF Landed LocD Φ₁ bufs zeros
  rw [fr_end, bigSep_empty, dn_end, pairs, univ_split, univ_split]
  iintro ⟨-, ⟨HO, -, Hb, Hzs⟩, Hg, ⟨Hc, Hzr⟩, ⟨Hx, Hk, Hzb⟩, Hs0, Hr0⟩
  ihave Hb := (rows_join m ρ c) $$ [Hk Hb]
  · isplitl [Hk] <;> iassumption
  ihave Hb := (Entails.of_eq (rowsPts_eq c fullShare (sendAt m ρ c))) $$ Hb
  isplitl [Hc Hb Hzs Hzr Hzb Hs0 Hr0]
  · isplitl [Hc Hb]
    · isplitl [Hc]
      · iexists _; iexact Hc
      iexists _; iexact Hb
    isplitl [Hzs Hs0]
    · isplitl [Hs0] <;> iassumption
    isplitl [Hzr Hr0]
    · isplitl [Hr0] <;> iassumption
    iexact Hzb
  isplitl [HO]; · iexact HO
  isplitl [Hx] <;> iassumption

/-- The body, from what the region hands it to what it hands back. -/
theorem sound : iprop(Φ₀ m ρ c ∗ ow c (O₀ c) ∗ blockPts m ρ c ∗ ∃ g, resPts c g)
    ⊢ WP c (cc0_body xM (Memref.isWhole_whole _) oM (Memref.isWhole_whole _) cM (Memref.isWhole_whole _) bM (Memref.isWhole_whole _) cc0_scratch2 cc0_scratch3)
        (fun _ => iprop(Φ₁ (F := F) c ∗ ow c 0 ∗ blockPts m ρ c ∗ resPts c (outAt m ρ c))) := by
  unfold Φ₀ start bufs linear creds
  iintro ⟨⟨⟨⟨%K, #HR, HaB, HaS, HaR, HtB, Ht⟩, ⟨HcB, HcR⟩, #Hlev⟩, ⟨%fc, Hc⟩, ⟨%fb, Hb⟩⟩, HO, Hx, Hg⟩
  ihave Hc := (comm_split c fc) $$ Hc
  icases Hc with ⟨Hc0, Hcs⟩
  ihave HSA := (to_signals (F := F) c) $$ [HO HtB Hcs]
  · isplitl [HO]; · iexact HO
    isplitl [HtB] <;> iassumption
  ihave HRW := (to_recvW (F := F) c) $$ [HaR HcR]
  · isplitl [HaR] <;> iassumption
  icases HRW with ⟨HRW, Hr0⟩
  ihave HSW := (to_sendW (F := F) c) $$ HaS
  icases HSW with ⟨HSW, Hs0⟩
  imod (close_zero m ρ K c) $$ [Hs0 Hr0] with ⟨Hs0, Hr0⟩
  · isplitr; · iexact HR
    isplitl [Hs0] <;> iassumption
  ihave Hb := (Entails.of_eq (rowsPts_eq c fullShare fb).symm) $$ Hb
  iapply (body_run m ρ K c (finish m ρ K c))
  isplitr; · iexact HR
  isplitl [HSA]; · iexact HSA
  isplitl [Hx Hb Hc0]
  · unfold LocA
    isplitl [Hx]; · iexact Hx
    isplitl [Hb]; · iexists fb; iexact Hb
    iexists fc; iexact Hc0
  isplitl [HaB HcB]
  · unfold BarW
    isplitr; · iexact Hlev
    isplitl [HaB] <;> iassumption
  isplitl [Ht]; · iexact Ht
  isplitl [HRW]; · iexact HRW
  isplitl [HSW]; · iexact HSW
  isplitl [Hg]; · iexact Hg
  isplitl [Hs0] <;> iassumption

end

/-! ## The region's obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ c ∗ (dats m ρ 0 c).owesAt () t0_0.succ ∗ stg c cc0_stg0_0 (xstg m ρ c) ∗ stg c cc0_stg1_0 (outAt m ρ c))

/-- What the body ends with is what the region takes back. -/
theorem post_intro (c : Dev nD) : iprop(Φ₁ (F := F) c ∗ ow c 0 ∗ blockPts m ρ c ∗ resPts c (outAt m ρ c)) ⊢ bodyPost m ρ c := by
  unfold bodyPost ow blockPts resPts Pipeline.Dat.owesAt Pipeline.owesWithin
  rw [show (dats m ρ 0 c).owed t0_0.succ = 0 from rfl]
  iintro ⟨HΦ, ⟨%W, HO⟩, Hx, Hg⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hg

set_option maxRecDepth 65536 in
/-- The region's body obligation on device `c`. -/
theorem body_obligation (c : Dev nD) : Pipeline.BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (cc0_body xM (Memref.isWhole_whole _) oM (Memref.isWhole_whole _) cM (Memref.isWhole_whole _) bM (Memref.isWhole_whole _) cc0_scratch2 cc0_scratch3) (fun _ => bodyPost m ρ c)
  refine BIBase.Entails.trans ?_ ((sound m ρ c).trans (wp_mono frame (wpE (defs₀ (F := F)) 𝒱₀ (c : Thread nD τ) none) Set.univ fun _ => post_intro m ρ c))
  unfold bodyPre ow blockPts resPts Pipeline.Dat.owesAt Pipeline.owesWithin
  rw [show (dats m ρ 0 c).owed t0_0.castSucc = O₀ c from rfl]
  iintro ⟨HΦ, ⟨%W, %hW, HO⟩, ⟨%d0, %g0, %hg0, Hx⟩, ⟨%d1, %g1, %hg1, Hg⟩⟩
  have hx : g0 = xstg m ρ c := by rw [hg0]; unfold Pipeline.Dat.before; rw [if_pos (fetch0_0 t0_0)]; rfl
  subst hx
  isplitl [HΦ]; · iexact HΦ
  isplitl [HO]; · iexists W; iexact HO
  isplitl [Hx]; · iexact Hx
  iexists g1; iexact Hg

end Cert.KernelIdeal.Exchange

end
-- ==== Proof.KernelIdeal.Launch.lean ====
/-
# What the launch hands out

The cells and tokens of the exchange, each token with the device that pays with it.
-/
module

public import proofs.«01_k».proof.Proof.KernelIdeal.Body

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- A semaphore's number. -/
def semNo : SemLoc sig → ℕ
  | .reg _ => 0
  | .dma q => q.val
theorem no_send (j : Fin 32) : semNo (osem (false, j)) = 2 + j.val := sendS_val j
theorem no_recv (j : Fin 32) : semNo (osem (true, j)) = 34 + j.val := recvS_val j

theorem csem_injective : Function.Injective csem := by
  have hb : ∀ x : Bool × Fin 32, 2 ≤ semNo (osem x) := by
    rintro ⟨_ | _, j⟩
    · rw [no_send]; omega
    · rw [no_recv]; omega
  rintro (_ | ⟨b, j⟩) (_ | ⟨b', j'⟩) h
  · rfl
  · exact absurd (congrArg semNo h) (by have := hb (b', j'); show 0 ≠ semNo (osem (b', j')); omega)
  · exact absurd (congrArg semNo h) (by have := hb (b, j); show semNo (osem (b, j)) ≠ 0; omega)
  · have hn : semNo (osem (b, j)) = semNo (osem (b', j')) := congrArg semNo h
    have := j.isLt
    have := j'.isLt
    rcases b with _ | _ <;> rcases b' with _ | _ <;> simp only [no_send, no_recv] at hn
    · rw [show j = j' from Fin.ext (by omega)]
    · omega
    · omega
    · rw [show j = j' from Fin.ext (by omega)]

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- All the cells of the exchange. -/
def allCells : Finset (GSem nD τ sig) := Finset.univ.map ⟨kcell, kcell_injective⟩

/-- The tokens minted: at device `c`, for every slot `j`, the barrier's token of the device `j` places before it, the
    send token and the receive token of the slot. -/
abbrev tokOf (x : Fin 3 × Dev nD × Fin 32) : GSem nD τ sig × ℕ × Dev nD := match x.1 with
  | 0 => (barCell x.2.1, 0, bk x.2.1 x.2.2.val) | 1 => (recvCell x.2.1 x.2.2, 0, z) | 2 => (sendCell x.2.1 x.2.2, 0, z)
theorem tokOf_injective : Function.Injective (tokOf : Fin 3 × Dev nD × Fin 32 → GSem nD τ sig × ℕ × Dev nD) := by
  rintro ⟨i, c, j⟩ ⟨i', c', j'⟩ h
  have h1 : c = c' := by
    have := congrArg (fun x : GSem nD τ sig × ℕ × Dev nD => x.1.1.1) h
    fin_cases i <;> fin_cases i' <;> exact this
  subst h1
  have hn := congrArg (fun x : GSem nD τ sig × ℕ × Dev nD => semNo x.1.2) h
  have hd := congrArg (fun x : GSem nD τ sig × ℕ × Dev nD => x.2.2) h
  have e1 := sendS_val j
  have e2 := sendS_val j'
  have e3 := recvS_val j
  have e4 := recvS_val j'
  have := j.isLt
  have := j'.isLt
  fin_cases i <;> fin_cases i' <;> simp only [semNo] at hn
  · have hj : j = j' := bk_inj c hd
    subst hj; rfl
  · omega
  · omega
  · omega
  · rw [show j = j' from Fin.ext (by omega)]
  · omega
  · omega
  · omega
  · rw [show j = j' from Fin.ext (by omega)]

def allToks : Finset (GSem nD τ sig × ℕ × Dev nD) := Finset.univ.map ⟨tokOf, tokOf_injective⟩

/-- What the launch starts the ghost state from. -/
def u₀ : UU :=
  (initOf (Pipeline.cells cfgs cellOf_inj) (Pipeline.launchToks cfgs cellOf_inj), initOf allCells allToks)

/-! ## Sums over a device's cells -/

theorem over_cells (Φ : CK → sProp 𝕄) : bigSep Finset.univ Φ
    = iprop(Φ none ∗ (bigSep Finset.univ fun j : Fin 32 => Φ (some (false, j))) ∗ bigSep Finset.univ fun j : Fin 32 => Φ (some (true, j))) := by
  have hb : (bigSep Finset.univ fun x : Bool × Fin 32 => Φ (some x))
      = iprop((bigSep Finset.univ fun j : Fin 32 => Φ (some (false, j))) ∗ bigSep Finset.univ fun j : Fin 32 => Φ (some (true, j))) := by
    rw [bigSep_univ_prod, bigSep_univ_eq_bigSepL [false, true] (by decide) (by decide)]; rfl
  rw [bigSep_univ_at Φ none, ← hb]
  have he : (Finset.univ.erase none : Finset CK) = Finset.univ.map Function.Embedding.some := by
    ext x
    rcases x with _ | x
    · simp
    · simp
  rw [he, bigSep_map]
  rfl

/-- The tokens device `c` holds once each is with its payer. -/
def PayToks (c : Dev nD) : sProp 𝕄 := iprop(BarToks (F := F) c ∗ Toks c)

/-- A family of tokens at each device, moved to the payers `j` places before, slot 0 left out. -/
theorem around (Φ : Dev nD → Fin 32 → sProp 𝕄) : (bigSep Finset.univ fun c : Dev nD => bigSep Finset.univ fun j : Fin 32 => Φ c j)
    ⊢ bigSep Finset.univ fun c : Dev nD => bigSep (fr 1) fun j : Fin 32 => Φ (sh c j.val) j := by
  rw [Idealize.SL.BI.bigSep_univ_comm,
    bigSep_congr (s := Finset.univ) fun (j : Fin 32) _ => bigSep_univ_equiv (ring j) fun c : Dev nD => Φ c j,
    Idealize.SL.BI.bigSep_univ_comm]
  exact bigSep_mono fun c _ => bigSep_subset (Finset.subset_univ _)

/-- Every token minted reaches the device that pays with it. -/
theorem deal : (bigSep allToks fun x => (dutyTok ER x.1 x.2.1 x.2.2 : sProp 𝕄)) ⊢ bigSep Finset.univ fun c : Dev nD => PayToks (F := F) c := by
  have h : (bigSep allToks fun x => (dutyTok ER x.1 x.2.1 x.2.2 : sProp 𝕄))
      = iprop((bigSep Finset.univ fun c : Dev nD => bigSep Finset.univ fun j : Fin 32 => dutyTok ER (barCell c) 0 (bk c j.val))
        ∗ (bigSep Finset.univ fun c : Dev nD => bigSep Finset.univ fun j : Fin 32 => dutyTok ER (recvCell c j) 0 z)
        ∗ (bigSep Finset.univ fun c : Dev nD => bigSep Finset.univ fun j : Fin 32 => dutyTok ER (sendCell c j) 0 z)) := by
    unfold allToks
    rw [bigSep_map, bigSep_univ_prod, bigSep_univ_eq_bigSepL [0, 1, 2] (by decide) (by decide)]
    simp only [bigSep_univ_prod]
    rfl
  unfold PayToks BarToks Toks
  rw [h]
  simp only [pairs, bigSep_sep']
  iintro ⟨HB, HR, HS⟩
  isplitl [HB]
  · ihave H := (around fun c j => (dutyTok ER (barCell c) 0 (bk c j.val) : sProp 𝕄)) $$ HB
    iapply (Entails.of_eq (bigSep_congr (s := Finset.univ) fun (c : Dev nD) _ => bigSep_congr (s := fr 1) fun (j : Fin 32) _ =>
      congrArg (fun d => (dutyTok ER (barCell (sh c j.val)) 0 d : sProp 𝕄)) (bk_sh c j.isLt)))
    iexact H
  isplitl [HR]
  · iapply (around fun c j => (dutyTok ER (recvCell c j) 0 z : sProp 𝕄)); iexact HR
  · iapply (show (bigSep Finset.univ fun c : Dev nD => bigSep Finset.univ fun j : Fin 32 => (dutyTok ER (sendCell c j) 0 z : sProp 𝕄))
        ⊢ bigSep Finset.univ fun c : Dev nD => bigSep (fr 1) fun j : Fin 32 => dutyTok ER (sendCell c j) 0 z from
      bigSep_mono fun c _ => bigSep_subset (Finset.subset_univ (fr 1)))
    iexact HS

/-! ## The launch's step -/

/-- A cell's part of what the launch deals: its schedule at the start, a position in it, and that round 0 is reached. -/
def G (c : Dev nD) : sProp 𝕄 :=
  iprop((bigSep Finset.univ fun k : CK => roundState ER (xRd m ρ) (kcell (c, k)) 0)
    ∗ (bigSep Finset.univ fun k : CK => reached ER (kcell (c, k)) 0)
    ∗ (bigSep Finset.univ fun k : CK => atPos ER (kcell (c, k)) 0 ∅ 0) ∗ PayToks c)

/-- What the exchange starts from on device `c`: every cell's record, the device's positions and tokens. -/
def G' (c : Dev nD) : sProp 𝕄 := iprop(∃ K, recs m ρ K ∗ linear c)

/-- The ghost state of the exchange, dealt out. -/
theorem fund_all : BI.own (ER (initOf allCells allToks)) ⊢ (|==> bigSep Finset.univ (G m ρ) : sProp 𝕄) := by
  have hc (Φ : GSem nD τ sig → sProp 𝕄) : bigSep allCells Φ = bigSep Finset.univ fun c : Dev nD => bigSep Finset.univ fun k : CK => Φ (kcell (c, k)) := by
    unfold allCells; rw [bigSep_map, bigSep_univ_prod]; rfl
  refine (Rounds.fund ER (xRd m ρ) allCells allToks).trans (BI.bupd_mono ?_)
  unfold G
  rw [hc, hc, hc, bigSep_sep', bigSep_sep', bigSep_sep']
  exact sep_mono_right (sep_mono_right (sep_mono_right deal))

/-- All of a device's semaphores at zero: its own, and the barrier's. -/
theorem sems0_eq (c : Dev nD) :
    iprop(Pipeline.ownSems0 (Ix := Unit) (Name := ℕ) (U := UU) (Lvl := ℕ) (Val := Elt F) (τ := τ) osem c ∗ unscopedSems0 c)
      = (iprop(((bigSep Finset.univ fun j : Fin 32 => semVal (sendCell c j) 0) ∗ bigSep Finset.univ fun j : Fin 32 => semVal (recvCell c j) 0)
          ∗ semVal (barCell c) 0) : sProp 𝕄) := by
  have hu : (unscopedSems0 c : sProp 𝕄) = semVal (barCell c) 0 := by
    unfold unscopedSems0; rw [bigSep_eq_bigSepL_of_eq [SemLoc.reg barS] (by decide) (by decide)]; rfl
  unfold Pipeline.ownSems0
  rw [hu, bigSep_univ_prod, bigSep_univ_eq_bigSepL [false, true] (by decide) (by decide)]; rfl

/-- One device's cells become invariants. -/
theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xRd m ρ) κ (kcell (c, k))))
          ∗ (bigSep Finset.univ fun k : CK => reached ER (kcell (c, k)) 0)
          ∗ (bigSep Finset.univ fun k : CK => atPos ER (kcell (c, k)) 0 ∅ 0) ∗ PayToks c) := by
  have hv : iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
    rw [sems0_eq, over_cells]
    iintro ⟨⟨HS, HR⟩, HB⟩
    isplitl [HB]; · iexact HB
    isplitl [HS]; · iexact HS
    iexact HR
  have hi : iprop((bigSep Finset.univ fun k : CK => semVal (kcell (c, k)) 0) ∗ bigSep Finset.univ fun k : CK => roundState ER (xRd m ρ) (kcell (c, k)) 0)
      ⊢ (|={Set.univ}=> bigSep Finset.univ fun k => iprop(∃ κ : ℕ, cellInv ER (xRd m ρ) κ (kcell (c, k))) : sProp 𝕄) := by
    rw [← bigSep_sep']
    exact (bigSep_mono fun k _ => (Rounds.body_intro ER (xRd m ρ) (kcell (c, k))).trans inv_alloc).trans (bigSep_fupd _ _)
  unfold G
  iintro ⟨Ho, Hu, Hst, Hrest⟩
  ihave Hv := hv $$ [Ho Hu]
  · isplitl [Ho] <;> iassumption
  imod hi $$ [Hv Hst] with Hi
  · isplitl [Hv]; · iexact Hv
    iexact Hst
  imodintro
  isplitl [Hi]; · iexact Hi
  iexact Hrest

/-- A device's positions, read off the sum over its cells. -/
theorem linear_intro (c : Dev nD) : iprop((bigSep Finset.univ fun k : CK => atPos ER (kcell (c, k)) 0 ∅ 0) ∗ PayToks c) ⊢ linear (F := F) c := by
  unfold linear PayToks
  rw [over_cells]
  iintro ⟨⟨HB, HS, HR⟩, Ht⟩
  isplitl [HB]; · iexact HB
  isplitl [HS]; · iexact HS
  isplitl [HR]; · iexact HR
  iexact Ht

/-- The records, known everywhere, go to each device. -/
theorem regroup : (bigSep Finset.univ fun c : Dev nD => iprop((bigSep Finset.univ fun k => iprop(∃ κ : ℕ, cellInv ER (xRd m ρ) κ (kcell (c, k))))
          ∗ (bigSep Finset.univ fun k : CK => reached ER (kcell (c, k)) 0)
          ∗ (bigSep Finset.univ fun k : CK => atPos ER (kcell (c, k)) 0 ∅ 0) ∗ PayToks c) : sProp 𝕄)
    ⊢ bigSep Finset.univ (G' m ρ) := by
  rw [bigSep_sep', bigSep_sep', ← bigSep_univ_prod (fun ck : Dev nD × CK => iprop(∃ κ : ℕ, cellInv ER (xRd m ρ) κ (kcell ck))),
    ← bigSep_univ_prod (fun ck : Dev nD × CK => (reached ER (kcell ck) 0 : sProp 𝕄))]
  iintro ⟨HI, #HR, Hl⟩
  ihave HK := (BI.bigSep_exists_pi Finset.univ (fun (ck : Dev nD × CK) (κ : ℕ) => (cellInv ER (xRd m ρ) κ (kcell ck) : sProp 𝕄))) $$ HI
  icases HK with ⟨%K, #HI⟩
  ihave Hall := (BI.bigSep_of_persistent (Finset.univ : Finset (Dev nD)) (recs m ρ K)) $$ []
  · unfold recs; isplitl; · iexact HI
    iexact HR
  have hg : iprop((bigSep Finset.univ fun _ : Dev nD => recs m ρ K) ∗ bigSep Finset.univ fun c : Dev nD => iprop((bigSep Finset.univ fun k : CK => atPos ER (kcell (c, k)) 0 ∅ 0) ∗ PayToks c))
      ⊢ bigSep Finset.univ (G' m ρ) := by
    rw [← bigSep_sep']
    refine bigSep_mono fun c _ => ?_
    show iprop(recs m ρ K ∗ (bigSep Finset.univ fun k : CK => atPos ER (kcell (c, k)) 0 ∅ 0) ∗ PayToks c) ⊢ G' m ρ c
    refine (sep_mono_right (linear_intro c)).trans ?_
    unfold G'
    iintro H
    iexists K; iexact H
  iapply hg
  isplitl [Hall]; · iexact Hall
  iexact Hl

/-- The launch's step over all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc m ρ c).trans (bigSep_fupd _ _)).trans (fupd_mono (regroup m ρ))

/-! ## The launch's credit -/

theorem cell_eq {a b : Dev nD} {s t : SemLoc sig} : (((a : Thread nD τ), s) : GSem nD τ sig) = ((b : Thread nD τ), t) ↔ a = b ∧ s = t :=
  ⟨fun h => ⟨congrArg (fun g : GSem nD τ sig => g.1.1) h, congrArg Prod.snd h⟩, fun h => by rw [h.1, h.2]⟩

/-- Exactly one device lies `j` places before `c`. -/
theorem sum_ring (c : Dev nD) (j : Fin 32) (n : ℕ) : (∑ d : Dev nD, if c = sh d j.val then n else 0) = n := by
  refine (Equiv.sum_comp (ring j) fun d => if c = d then n else 0).trans ?_
  rw [Finset.sum_ite_eq, if_pos (Finset.mem_univ _)]

theorem sum_tally (s : Finset (Fin 32)) (t : Fin 32 → CellTallies nD τ sig Unit) (g : GSem nD τ sig) : (∑ j ∈ s, t j) g () = ∑ j ∈ s, t j g () := by
  rw [Finset.sum_apply, Finsupp.finset_sum_apply]

theorem bar_ne_recv (k : Fin 32) : (SemLoc.reg barS : SemLoc sig) ≠ .dma (recvS k) := fun h => by cases h
theorem recv_inj {j k : Fin 32} (h : (SemLoc.dma (recvS j) : SemLoc sig) = .dma (recvS k)) : j = k := by
  have hn : (recvS j).val = (recvS k).val := congrArg semNo h
  rw [recvS_val, recvS_val] at hn
  exact Fin.ext (by omega)

theorem owed_bar (d c : Dev nD) : O₀ d (barCell c) () = ∑ j ∈ fr 1, if c = sh d j.val then 1 else 0 := by
  unfold O₀ OR OB
  rw [Pi.add_apply, Finsupp.add_apply, sum_tally, sum_tally, Finset.sum_eq_zero, Nat.zero_add]
  · refine Finset.sum_congr rfl fun j _ => ?_
    rw [tallyAt_apply]
    exact if_congr ⟨fun h => (cell_eq.mp h.1).1, fun h => ⟨cell_eq.mpr ⟨h, rfl⟩, rfl⟩⟩ rfl rfl
  · intro j _
    rw [tallyAt_apply]
    exact if_neg fun h => bar_ne_recv j (cell_eq.mp h.1).2

theorem owed_recv (d c : Dev nD) {k : Fin 32} (hk : k ∈ fr 1) : O₀ d (recvCell c k) () = if c = sh d k.val then N else 0 := by
  unfold O₀ OR OB
  rw [Pi.add_apply, Finsupp.add_apply, sum_tally, sum_tally, Finset.sum_eq_zero (s := fr 1) (f := fun j => tallyAt (barCell (sh d j.val)) () 1 (recvCell c k) ()),
    Nat.add_zero, Finset.sum_eq_single_of_mem k hk]
  · rw [tallyAt_apply]
    exact if_congr ⟨fun h => (cell_eq.mp h.1).1, fun h => ⟨cell_eq.mpr ⟨h, rfl⟩, rfl⟩⟩ rfl rfl
  · intro j _ hj
    rw [tallyAt_apply]
    exact if_neg fun h => hj (recv_inj (cell_eq.mp h.1).2).symm
  · intro j _
    rw [tallyAt_apply]
    exact if_neg fun h => bar_ne_recv k (cell_eq.mp h.1).2.symm

/-- The launch credits a barrier with one signal from each other device, -/
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => sum_ring c j 1, Finset.sum_const, card_fr]
  rfl

/-- and a receive semaphore with one transfer. -/
theorem launch_recv (c : Dev nD) {k : Fin 32} (hk : k ∈ fr 1) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c hk, sum_ring]

theorem creds_intro (c : Dev nD) : (Pipeline.launchCred O₀ c : sProp 𝕄) ⊢ creds (F := F) c := by
  unfold Pipeline.launchCred creds
  refine (bigSep_subset (Finset.subset_univ (Finset.univ.map ⟨csem, csem_injective⟩))).trans ?_
  rw [bigSep_map, over_cells]
  refine (sep_mono_right (BIBase.Entails.trans Laws.sep_and and_elimR)).trans (sep_mono (Entails.of_eq (congrArg cred (launch_bar c))) ?_)
  refine (bigSep_subset (Finset.subset_univ (fr 1))).trans (Entails.of_eq (bigSep_congr fun k hk => ?_))
  exact congrArg cred (launch_recv c hk)

end Cert.KernelIdeal.Exchange

end
-- ==== Proof.KernelIdeal.Run.lean ====
/-
# The whole run

The kernel run on all devices: it ends, and what its arrays then hold.
-/
module

public import proofs.«01_k».proof.Proof.KernelIdeal.Launch
public import Idealize.ShloMosaic.Lib.Pipeline.CollectiveSegs

@[expose] public section

noncomputable section

namespace Cert.KernelIdeal.Exchange

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Pipeline.Dat.share; split <;> rfl

/-- What the launch leaves of one device is what its region starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem region_enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs
  iintro ⟨Hs, -, Hr⟩
  isplitl [Hs] <;> iassumption

theorem region_leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  have hz : zeros (F := F) c ⊢ iprop(Pipeline.ownSems0 osem c ∗ unscopedSems0 c) := by
    rw [sems0_eq]
    unfold zeros
    iintro ⟨HS, HR, HB⟩
    isplitl [HS HR]
    · isplitl [HS] <;> iassumption
    iexact HB
  unfold Φ₁ bufs
  iintro ⟨Hb, Hz⟩
  ihave Hz := hz $$ Hz
  icases Hz with ⟨Ho, Hu⟩
  isplitl [Hu]; · iexact Hu
  isplitl [Ho]; · iexact Ho
  iexact Hb

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What a window's array holds on device `c` when the region is over. -/
def finalA (c : Dev nD) (w : Fin cfg0.W) : Buf (Elt F) ((cfg0.win w).arr.view.loc (c : Thread nD τ)) := (dats m ρ 0 c).arrAt w cfg0.N

set_option maxRecDepth 8000 in
/-- Every run of the kernel on the 32 devices ends, each device's two arrays as the region's data say and every semaphore
    at zero. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := region_enter m ρ) (hout := region_leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument ends as it started; -/
theorem finalA_x (c : Dev nD) : finalA m ρ c (0 : Fin 2) = m ((c : Thread nD τ).loc main_arg0) :=
  (dats (F := F) m ρ 0 c).arrAt_in (0 : Fin 2) rfl _

/-- the block the body works on is the whole argument; -/
theorem xstg_eq (c : Dev nD) : xstg m ρ c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _

/-- and the result array holds the kernel's result. -/
theorem finalA_o (c : Dev nD) : finalA m ρ c (1 : Fin 2) = outAt m ρ c := by
  have hw : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  rw [← hw]
  exact (Memref.read_access_unit_zero (Elt F) main_v1 (off := fun a => (win0_1.index (0 : Fin 1)) a * main_v1.ty.shape.size a)
    (funext fun a => by fin_cases a <;> decide) (fun a => by fin_cases a <;> decide) _).symm

/-- The run ends with the argument as it was and all semaphores at zero. -/
theorem run_frame : θ_run defs (onTc (τ := τ) (main (F := F))) (s₀ m ρ)
    (fun r => (∀ c : Dev nD, r.2.mem ((c.tc : Thread nD τ).loc main_arg0) = m ((c.tc : Thread nD τ).loc main_arg0)) ∧ r.2.sem = fun _ => 0) :=
  (θ_run defs _ _).mono (fun _ h => ⟨fun c => (h.1 c (0 : Fin 2)).trans (finalA_x m ρ c), h.2⟩) (run_main m ρ)

/-- The run ends with the kernel's result in the result array and the argument as it was. -/
theorem run_value : θ_run defs (onTc (τ := τ) (main (F := F))) (s₀ m ρ)
    (fun r => ∀ c : Dev nD, r.2.mem ((c.tc : Thread nD τ).loc main_v1) = outAt m ρ c
      ∧ r.2.mem ((c.tc : Thread nD τ).loc main_arg0) = m ((c.tc : Thread nD τ).loc main_arg0)) :=
  (θ_run defs _ _).mono (fun _ h c => ⟨(h.1 c (1 : Fin 2)).trans (finalA_o m ρ c), (h.1 c (0 : Fin 2)).trans (finalA_x m ρ c)⟩) (run_main m ρ)

end Cert.KernelIdeal.Exchange

end
-- ==== Proof.KernelIdeal.AsPrinted.lean ====
/-
# The program as it is printed

No rewrite is used, so the program that the real-number claims are about is, operation by operation, the program as it is printed.
What is proved of the one for any floats therefore holds of the other.
-/
module

public import proofs.«01_k».proof.Proof.Gen.Kernel
public import proofs.«01_k».proof.Proof.KernelIdeal.Run

@[expose] public section

noncomputable section

namespace Cert.KernelIdeal.Exchange

open Idealize.ShloMosaic Idealize.ShloMosaic.TcCoe Idealize.SL.Sem
open Cert

variable {F : FTy → Type} [FloatOps F]

set_option maxRecDepth 65536 in
/-- The two kernels are one program, -/
theorem body_same : @Kernel.cc0_body F _ Kernel.Gen.facts = @KernelIdeal.cc0_body F _ KernelIdeal.Gen.facts := rfl

/-- and so are the tables that name them, -/
theorem kernels_same : Kernel.defs₀ (F := F) = KernelIdeal.defs₀ (F := F) := by
  unfold Kernel.defs₀ KernelIdeal.defs₀
  refine congrArg Defs.onTc (funext fun ℓ => funext fun a => ?_)
  match ℓ, a with
  | ⟨0, _⟩, (t, s) =>
    exact congrFun (congrFun (congrFun (congrFun (congrFun (congrFun (congrFun (congrFun (congrFun (congrFun body_same _) _) _) _) _) _) _) _) _) _

theorem defs_same : Kernel.defs (F := F) = KernelIdeal.defs (F := F) := congrArg (Pipeline.defs KernelIdeal.pcfgs) kernels_same

/-- and the programs that call them. -/
theorem main_same : Kernel.main (F := F) = KernelIdeal.main (F := F) := rfl

/-- The printed program ends with its argument as it was and all semaphores at zero. -/
theorem printed_frame (m : (ℓ : Loc Kernel.nD Kernel.τ Kernel.sig) → Buf (Elt F) ℓ) (ρ : Dev Kernel.nD → PrngReg) :
    θ_run Kernel.defs (onTc (τ := Kernel.τ) (Kernel.main (F := F))) ⟨m, fun _ => 0, ρ⟩ (fun r =>
      (∀ c : Dev Kernel.nD, r.2.mem ((c.tc : Thread Kernel.nD Kernel.τ).loc Kernel.main_arg0) = m ((c.tc : Thread Kernel.nD Kernel.τ).loc Kernel.main_arg0))
        ∧ r.2.sem = fun _ => 0) := by
  rw [defs_same, main_same]
  exact run_frame m ρ

end Cert.KernelIdeal.Exchange

end
-- ==== Proof.Reference.Run.lean ====
/-
# The reference's run

The reference runs on one device over the whole array: the argmax of every column with the maximum beside it (one reduction of
value and row number together, once for each of its two results), the row numbers turned into floats, the maximum of every
column, and the two rows stacked. It is a straight line of operations, so its run leaves `refOut` of the argument in the result
array and changes nothing else that a caller sees.
-/
module

public import Idealize.ShloMosaic.Lib.StableHlo.Run
public import Idealize.ShloMosaic.Lib.Quiescent
public import proofs.«01_k».proof.Proof.Gen.ReferenceIdeal

@[expose] public section

noncomputable section

namespace Cert.ReferenceIdeal.Plain

open Cert.ReferenceIdeal Cert.ReferenceIdeal.Gen
open Idealize.ShloMosaic Idealize.ShloMosaic.TcCoe Idealize.ShloMosaic.StableHlo Idealize.SL.Sem

variable {F : FTy → Type} [FloatOps F]

/-- Every column's maximum and the row it stands in, found together. -/
def argmaxPair (x : FVec F S32768x512 .f32) : S512.Idx → F .f32 × BitVec 32 :=
  Host.argReduce reducer_argmax_f32_i32 x (iotaInDim S32768x512 32 0) (constant S_ .f32 0xFF800000#32) (constantI S_ 32 0#32)
    reducesTo_S32768x512_S512_d0 h_S_

/-- Every column's maximum. -/
def colMax (x : FVec F S32768x512 .f32) : FVec F S512 .f32 :=
  Host.reduce FloatOps.maximumf x (constant S_ .f32 0xFF800000#32) reducesTo_S32768x512_S512_d0 h_S_

/-- What the reference returns: the row of the maxima over the row of their row numbers. -/
def refOut (x : FVec F S32768x512 .f32) : FVec F S2x512 .f32 :=
  concatenate S2x512 0
    [⟨S1x512, broadcastInDim S1x512 ![1] bcast_S512_S1x512_1 (colMax x)⟩,
     ⟨S1x512, broadcastInDim S1x512 ![1] bcast_S512_S1x512_1 (sitofp .f32 fun j => (argmaxPair x j).2)⟩]
    concatenates_S1x512_S1x512_S2x512_d0

/-- The operations, in order. -/
abbrev ops : List (HloOp τ sig (Elt F)) :=
  [ nullary main_call0_v0 (iotaInDim S32768x512 32 0),
    nullary main_call0_cst (constant S_ .f32 0xFF800000#32),
    nullary main_call0_c (constantI S_ 32 0#32),
    quaternary main_arg0 main_call0_v0 main_call0_cst main_call0_c main_call0_v1_0
      (fun x y u v j => (Host.argReduce reducer_argmax_f32_i32 x y u v reducesTo_S32768x512_S512_d0 h_S_ j).1),
    quaternary main_arg0 main_call0_v0 main_call0_cst main_call0_c main_v0
      (fun x y u v j => (Host.argReduce reducer_argmax_f32_i32 x y u v reducesTo_S32768x512_S512_d0 h_S_ j).2),
    unary main_v0 main_v1 (sitofp .f32),
    nullary main_cst (constant S_ .f32 0xFF800000#32),
    binary main_arg0 main_cst main_v2 (fun x v => Host.reduce FloatOps.maximumf x v reducesTo_S32768x512_S512_d0 h_S_),
    unary main_v2 main_v3 (broadcastInDim S1x512 ![1] bcast_S512_S1x512_1),
    unary main_v1 main_v4 (broadcastInDim S1x512 ![1] bcast_S512_S1x512_1),
    binary main_v3 main_v4 main_v5
      (fun a b => concatenate S2x512 0 [⟨S1x512, a⟩, ⟨S1x512, b⟩] concatenates_S1x512_S1x512_S2x512_d0) ]

/-- The program is that straight line; -/
theorem main_eq (c : Dev nD) : main (F := F) c = seq ops := rfl

/-- it leaves `refOut` of the argument in the result array -/
theorem after_out (V : Valuation τ sig (Elt F)) : after ops V (main_v5 : DevRef τ sig) = refOut (V (main_arg0 : DevRef τ sig)) := by
  after_results
  rfl

/-- and the argument as it was; -/
theorem after_arg (V : Valuation τ sig (Elt F)) : after ops V (main_arg0 : DevRef τ sig) = V (main_arg0 : DevRef τ sig) := by
  after_results

/-- nothing in it is scoped -/
theorem no_scoped_refs : (Finset.univ.filter fun b : Ref sig .tc => b.isScoped) = ∅ := by decide
theorem no_scoped_sems : (Finset.univ.filter fun sm : SemLoc sig => sm.isScoped .tc) = ∅ := by decide

/-- and every operation works on the core's own arrays. -/
theorem ops_local : (ops : List (HloOp τ sig (Elt F))).Forall fun op => op.bufs ⊆ tcRefs τ sig :=
  ⟨nullary_bufs_sub .., nullary_bufs_sub .., nullary_bufs_sub .., quaternary_bufs_sub .., quaternary_bufs_sub ..,
    unary_bufs_sub .., nullary_bufs_sub .., binary_bufs_sub .., unary_bufs_sub .., unary_bufs_sub .., binary_bufs_sub ..⟩

variable (m : (ℓ : Loc nD τ sig) → Buf (Elt F) ℓ) (ρ : Dev nD → PrngReg)

/-- The reference always ends, with `refOut` of its argument in the result array and the argument as it was. -/
theorem run_value : θ_run defs (onTc (τ := τ) (main (F := F))) ⟨m, fun _ => 0, ρ⟩ fun r =>
    ∀ c : Dev nD, r.2.mem ((c.tc : Thread nD τ).loc main_v5) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v5).trans (after_out _), (h c main_arg0).trans (after_arg _)⟩)
    (run_seq no_scoped_refs no_scoped_sems defs main (fun _ => ops) main_eq (fun _ => ops_local) m ρ)

/-- It ends with the argument as it was and, having no semaphores, with all of them at zero. -/
theorem run_frame : θ_run defs (onTc (τ := τ) (main (F := F))) ⟨m, fun _ => 0, ρ⟩ fun r =>
    (∀ c : Dev nD, r.2.mem ((c.tc : Thread nD τ).loc main_arg0) = m ((c.tc : Thread nD τ).loc main_arg0)) ∧ r.2.sem = fun _ => 0 :=
  (θ_run defs _ _).mono (fun r h => ⟨fun c => (h c).2, Idealize.ShloMosaic.sem_eq_zero_of_no_sems (by decide) r.2⟩)
    (run_value m ρ)

end Cert.ReferenceIdeal.Plain

end
-- ==== Proof.Value.Pick.lean ====
/-
# Reductions that pick

Every reduction in both programs keeps, of the accumulated element and the next one, the one that comes first in some order: the
greater float, the smaller float, the smaller integer, or — in the reference — the pair with the greater value and, at equal values,
the smaller row number. So one statement covers them all: what such a reduction returns is the initial element or an element of the
column, and it comes no later than any of them.
-/
module

public import Idealize.ShloMosaic.PureOps.Reduce
public import Idealize.ShloMosaic.Lib.ValueLayout

@[expose] public section

namespace Cert.Columns

open Idealize.ShloMosaic Idealize.ShloMosaic.ValueIdx

variable {α β κ : Type} [Preorder κ]

/-- `op` keeps whichever of its two arguments comes first by `key`. -/
structure Picks (op : β → β → β) (key : β → κ) : Prop where
  one_of : ∀ a b, op a b = a ∨ op a b = b
  le_left : ∀ a b, key (op a b) ≤ key a
  le_right : ∀ a b, key (op a b) ≤ key b

/-- Folding such an operation over a list returns the initial element or one of the list, the first of them all by `key`. -/
theorem Picks.foldl {op : β → β → β} {key : β → κ} (h : Picks op key) (g : α → β) (l : List α) (init : β) :
    (l.foldl (fun acc r => op acc (g r)) init = init ∨ ∃ r ∈ l, l.foldl (fun acc r => op acc (g r)) init = g r)
      ∧ key (l.foldl (fun acc r => op acc (g r)) init) ≤ key init
      ∧ ∀ r ∈ l, key (l.foldl (fun acc r => op acc (g r)) init) ≤ key (g r) := by
  induction l generalizing init with
  | nil => exact ⟨.inl rfl, le_rfl, fun r hr => absurd hr List.not_mem_nil⟩
  | cons a l ih =>
    obtain ⟨h1, h2, h3⟩ := ih (op init (g a))
    rw [List.foldl_cons]
    refine ⟨?_, h2.trans (h.le_left _ _), fun r hr => ?_⟩
    · rcases h1 with e | ⟨r, hr, e⟩
      · rw [e]
        exact (h.one_of init (g a)).imp id fun e' => ⟨a, List.mem_cons_self, e'⟩
      · exact .inr ⟨r, List.mem_cons_of_mem _ hr, e⟩
    · rcases List.mem_cons.1 hr with rfl | hr
      · exact h2.trans (h.le_right _ _)
      · exact h3 r hr

/-- The same of a reduction over the rows of an array, at one of its columns. -/
theorem Picks.rows {op : β → β → β} {key : β → κ} (h : Picks op key) {a b : ℕ}
    (hr : (⟨2, ![a, b]⟩ : Shape).Reduces [0] ⟨1, ![b]⟩) (init : β) (x : (⟨2, ![a, b]⟩ : Shape).Idx → β) (j : Fin b) :
    (reduceFold hr op init x (ix1 j) = init ∨ ∃ r : Fin a, reduceFold hr op init x (ix1 j) = x (ix2 r j))
      ∧ key (reduceFold hr op init x (ix1 j)) ≤ key init
      ∧ ∀ r : Fin a, key (reduceFold hr op init x (ix1 j)) ≤ key (x (ix2 r j)) := by
  have hp : ∀ r : Fin a, Shape.pair (d := ![a, b]) r (hr.col (ix1 j)) = ix2 r j := fun r => by
    funext i; match i with
    | ⟨0, _⟩ => rfl
    | ⟨1, _⟩ => rfl
  have e : reduceFold hr op init x (ix1 j) = (List.finRange a).foldl (fun acc r => op acc (x (ix2 r j))) init :=
    (reduceFold_rows hr op init x (ix1 j)).trans
      (congrArg (fun g : Fin a → β => (List.finRange a).foldl (fun acc r => op acc (g r)) init) (funext fun r => congrArg x (hp r)))
  have hf := h.foldl (fun r : Fin a => x (ix2 r j)) (List.finRange a) init
  rw [← e] at hf
  exact ⟨hf.1.imp id fun ⟨r, _, hr⟩ => ⟨r, hr⟩, hf.2.1, fun r => hf.2.2 r (List.mem_finRange r)⟩

end Cert.Columns
-- ==== Proof.Value.First.lean ====
/-
# The first row of a column's maximum

The number both programs compute, of a column of values: the first row in which the column's maximum stands. It is unique, and the
first such row of a column cut into equal blocks is found from the first such rows of the blocks.
-/
module

public import Mathlib.Data.EReal.Basic
public import Mathlib.Order.Fin.Basic

@[expose] public section

namespace Cert.Columns

/-- Row `i` holds the column's maximum, and no earlier row does. -/
structure First {n : ℕ} (x : Fin n → EReal) (i : Fin n) : Prop where
  top : ∀ r, x r ≤ x i
  le : ∀ r, x r = x i → i ≤ r

/-- There is only one such row. -/
theorem First.unique {n : ℕ} {x : Fin n → EReal} {i j : Fin n} (hi : First x i) (hj : First x j) : i = j :=
  have e : x i = x j := le_antisymm (hj.top i) (hi.top j)
  le_antisymm (hi.le j e.symm) (hj.le i e)

/-- A column of `k` blocks of `n` rows, `i d` the first row of the maximum of block `d`. If block `d₀` has the greatest of the blocks'
    maxima, and its row comes no later in the column than that of any other such block, then its row is the column's. -/
theorem First.of_blocks {k n N : ℕ} (x : Fin N → EReal) (at_ : Fin k → Fin n → Fin N)
    (hat : ∀ d r, (at_ d r).val = d.val * n + r.val) (hcover : ∀ r, ∃ d r', at_ d r' = r)
    {i : Fin k → Fin n} (hi : ∀ d, First (fun r => x (at_ d r)) (i d)) {d₀ : Fin k}
    (htop : ∀ d, x (at_ d (i d)) ≤ x (at_ d₀ (i d₀)))
    (hle : ∀ d, x (at_ d (i d)) = x (at_ d₀ (i d₀)) → at_ d₀ (i d₀) ≤ at_ d (i d)) :
    First x (at_ d₀ (i d₀)) where
  top r := by
    obtain ⟨d, r', rfl⟩ := hcover r
    exact ((hi d).top r').trans (htop d)
  le r e := by
    obtain ⟨d, r', rfl⟩ := hcover r
    have hd : x (at_ d (i d)) = x (at_ d₀ (i d₀)) := le_antisymm (htop d) (e ▸ (hi d).top r')
    have h := (hi d).le r' (e.trans hd.symm)
    refine (hle d hd).trans ?_
    rw [Fin.le_def, hat, hat]
    exact Nat.add_le_add_left h _

end Cert.Columns
-- ==== Proof.Value.Reference.lean ====
/-
# The reference's two rows, over the real numbers

At every column the reference's first row is the column's maximum and its second the first row number in which it stands.
-/
module

public import proofs.«01_k».proof.Proof.Reference.Run
public import proofs.«01_k».proof.Proof.Value.Pick
public import proofs.«01_k».proof.Proof.Value.First
public import Idealize.ShloMosaic.PureOps.Ideal.Laws
public import Idealize.ShloMosaic.Lib.Pipeline.Value
public import Mathlib.Data.Prod.Lex

@[expose] public section

noncomputable section

namespace Cert.Columns

open Idealize.ShloMosaic Idealize.ShloMosaic.ValueIdx

/-- The pattern of negative infinity is the least value, -/
theorem ofBits_bot : Ideal.ofBits .f32 0xFF800000#32 = ⊥ := by simp [Ideal.ofBits, Ideal.ieee]

/-- that of positive infinity the greatest, -/
theorem ofBits_top : Ideal.ofBits .f32 0x7F800000#32 = ⊤ := by simp [Ideal.ofBits, Ideal.ieee]

/-- and the kernel's mark of a row that is not the maximum's lies above every row number. -/
theorem row_lt_ofBits (n : ℕ) (h : n < 32768) : ((n : ℝ) : EReal) < Ideal.ofBits .f32 0x7F7FC99E#32 := by
  have e : Ideal.ofBits .f32 0x7F7FC99E#32 = ((16763294 * 2 ^ 104 : ℝ) : EReal) := by simp [Ideal.ofBits, Ideal.ieee, -EReal.coe_mul]
  have h' : (n : ℝ) < 32768 := by exact_mod_cast h
  rw [e, EReal.coe_lt_coe_iff]
  exact h'.trans (by norm_num)

/-- The maximum picks the greater of its arguments. -/
theorem picks_max : Picks (fun a b : EReal => max a b) OrderDual.toDual where
  one_of a b := max_choice a b
  le_left a b := OrderDual.toDual_le_toDual.2 (le_max_left a b)
  le_right a b := OrderDual.toDual_le_toDual.2 (le_max_right a b)

/-- The minimum picks the smaller of its arguments. -/
theorem picks_min : Picks (fun a b : EReal => min a b) id where
  one_of a b := min_choice a b
  le_left a b := min_le_left a b
  le_right a b := min_le_right a b

/-- An integer array turned into floats holds the integers themselves. -/
theorem sitofp_ideal {s : Shape} (v : IVec s 32) (i : s.Idx) : (sitofp .f32 v : FVec Ideal s .f32) i = (((v i).toInt : ℝ) : EReal) := rfl

/-- A constant array holds its pattern's value everywhere. -/
theorem constant_ideal {s : Shape} (b : BitVec 32) (i : s.Idx) : (constant s .f32 b : FVec Ideal s .f32) i = Ideal.ofBits .f32 b := rfl

/-- A reduction of two arrays together is the reduction of the array of their pairs. -/
theorem reduce2_eq_reduceFold {s t u : Shape} {axes : List (Fin s.rank)} {α β : Type} (f : α × β → α × β → α × β) (x : s.Idx → α)
    (y : s.Idx → β) (ix : u.Idx → α) (iy : u.Idx → β) (h : s.ReducesTo axes t) (h' : s.Reduces axes t) (hu : 0 < u.numel) :
    Host.reduce2 f x y ix iy h hu = reduceFold h' f (ix (Shape.Idx.first hu), iy (Shape.Idx.first hu)) fun i => (x i, y i) := rfl

/-- A reduction of one array, likewise. -/
theorem reduce_eq_reduceFold {s t u : Shape} {axes : List (Fin s.rank)} {α : Type} (f : α → α → α) (x : s.Idx → α)
    (ix : u.Idx → α) (h : s.ReducesTo axes t) (h' : s.Reduces axes t) (hu : 0 < u.numel) :
    Host.reduce f x ix h hu = reduceFold h' f (ix (Shape.Idx.first hu)) x := rfl

/-- A column's maximum, taken from negative infinity over at least one row, bounds the column and is one of its values. -/
theorem reduce_max {a b : ℕ} (ha : 0 < a) (hr : (⟨2, ![a, b]⟩ : Shape).Reduces [0] ⟨1, ![b]⟩)
    (x : (⟨2, ![a, b]⟩ : Shape).Idx → EReal) (j : Fin b) :
    (∃ r : Fin a, reduceFold hr (fun u v : EReal => max u v) ⊥ x (ix1 j) = x (ix2 r j))
      ∧ ∀ r : Fin a, x (ix2 r j) ≤ reduceFold hr (fun u v : EReal => max u v) ⊥ x (ix1 j) := by
  obtain ⟨h1, -, h3⟩ := picks_max.rows hr ⊥ x j
  refine ⟨?_, fun r => OrderDual.toDual_le_toDual.1 (h3 r)⟩
  rcases h1 with e | h
  · exact ⟨⟨0, ha⟩, e.trans (le_bot_iff.1 (e ▸ OrderDual.toDual_le_toDual.1 (h3 ⟨0, ha⟩))).symm⟩
  · exact h

end Cert.Columns

namespace Cert.ReferenceIdeal.Plain

open Cert.ReferenceIdeal Cert.ReferenceIdeal.Gen Cert.Columns
open Idealize.ShloMosaic Idealize.ShloMosaic.ValueIdx

/-- The order of the reference's pairs: the greater value first and, at equal values, the smaller row number. -/
def pairKey (p : EReal × BitVec 32) : ERealᵒᵈ ×ₗ ℤ := toLex (OrderDual.toDual p.1, p.2.toInt)

/-- The reference's choice between two pairs, written out. -/
theorem reducer_eq (a b : EReal × BitVec 32) :
    reducer_argmax_f32_i32 (F := Ideal) a b = if b.1 < a.1 ∨ a.1 = b.1 ∧ a.2.toInt < b.2.toInt then a else b := by
  obtain ⟨x, p⟩ := a
  obtain ⟨y, q⟩ := b
  rcases lt_trichotomy x y with h | h | h
  · simp [reducer_argmax_f32_i32, Ideal.cmpf_def, Ideal.cmp, Scalar.select, IntOp.ori, IntOp.andi, IntOp.cmpi, h, h.ne, h.le, not_lt_of_gt h]
  · subst h
    by_cases hp : p.toInt < q.toInt <;>
      simp [reducer_argmax_f32_i32, Ideal.cmpf_def, Ideal.cmp, Scalar.select, IntOp.ori, IntOp.andi, IntOp.cmpi, BitVec.slt, hp]
  · simp [reducer_argmax_f32_i32, Ideal.cmpf_def, Ideal.cmp, Scalar.select, IntOp.ori, IntOp.andi, IntOp.cmpi, h, h.ne']

/-- It picks the first of the two in that order. -/
theorem picks_pair : Picks (reducer_argmax_f32_i32 (F := Ideal)) pairKey where
  one_of a b := by rw [reducer_eq]; split; exacts [.inl rfl, .inr rfl]
  le_left a b := by
    rw [reducer_eq]
    split
    · exact le_rfl
    · rename_i h
      push Not at h
      refine Prod.Lex.toLex_le_toLex.2 ?_
      rcases lt_or_eq_of_le h.1 with h' | h'
      · exact .inl (OrderDual.toDual_lt_toDual.2 h')
      · exact .inr ⟨congrArg OrderDual.toDual h'.symm, h.2 h'⟩
  le_right a b := by
    rw [reducer_eq]
    split
    · rename_i h
      refine Prod.Lex.toLex_le_toLex.2 ?_
      rcases h with h' | ⟨h', h''⟩
      · exact .inl (OrderDual.toDual_lt_toDual.2 h')
      · exact .inr ⟨congrArg OrderDual.toDual h', h''.le⟩
    · exact le_rfl

variable (X : FVec Ideal S32768x512 .f32)

theorem toInt_row (n : ℕ) (h : n < 32768) : (BitVec.ofNat 32 n).toInt = n := by
  rw [BitVec.toInt_eq_toNat_of_lt] <;> rw [BitVec.toNat_ofNat, Nat.mod_eq_of_lt (by omega)]
  omega

/-- The pair found at a column: a row number and its value, the row the first of the column's maximum. -/
theorem argmaxPair_apply (j : Fin 512) : ∃ i : Fin 32768, First (fun r : Fin 32768 => X (ix2 r j)) i
    ∧ argmaxPair X (ix1 j) = (X (ix2 i j), BitVec.ofNat 32 i.val) := by
  have hr : S32768x512.Reduces [0] S512 := by decide
  have e : argmaxPair X = reduceFold hr (reducer_argmax_f32_i32 (F := Ideal)) (⊥, 0#32) (fun i => (X i, BitVec.ofNat 32 (i 0).val)) := by
    unfold argmaxPair
    rw [Ideal.argReduce_eq_reduce2]
    rw [reduce2_eq_reduceFold _ _ _ _ _ _ hr, constant_ideal, ofBits_bot]
    rfl
  obtain ⟨h1, h2, h3⟩ := picks_pair.rows hr (⊥, 0#32) (fun i => (X i, BitVec.ofNat 32 (i 0).val)) j
  rw [← e] at h1 h2 h3
  have key : ∀ i : Fin 32768, argmaxPair X (ix1 j) = (X (ix2 i j), BitVec.ofNat 32 i.val) →
      First (fun r : Fin 32768 => X (ix2 r j)) i := fun i hi => by
    constructor
    · intro r
      have := h3 r
      rw [hi] at this
      rcases Prod.Lex.toLex_le_toLex.1 this with h | h
      · exact (OrderDual.toDual_lt_toDual.1 h).le
      · exact (OrderDual.toDual_inj.1 h.1).ge
    · intro r hx
      have := h3 r
      rw [hi] at this
      rcases Prod.Lex.toLex_le_toLex.1 this with h | h
      · exact absurd (OrderDual.toDual_lt_toDual.1 h) (by rw [hx]; exact lt_irrefl _)
      · have h' := h.2
        change (BitVec.ofNat 32 i.val).toInt ≤ (BitVec.ofNat 32 r.val).toInt at h'
        rw [toInt_row _ i.isLt, toInt_row _ r.isLt] at h'
        exact_mod_cast h'
  rcases h1 with h | ⟨i, h⟩
  · have h0 : argmaxPair X (ix1 j) = (X (ix2 (0 : Fin 32768) j), BitVec.ofNat 32 (0 : Fin 32768).val) := by
      rw [h]
      refine Prod.ext ?_ rfl
      have := h3 (0 : Fin 32768)
      rw [h] at this
      rcases Prod.Lex.toLex_le_toLex.1 this with h' | h'
      · exact absurd (OrderDual.toDual_lt_toDual.1 h') not_lt_bot
      · exact OrderDual.toDual_inj.1 h'.1
    exact ⟨0, key 0 h0, h0⟩
  · exact ⟨i, key i h, h⟩

/-- The maximum of a column is that row's value. -/
theorem colMax_apply (j : Fin 512) {i : Fin 32768} (hi : First (fun r : Fin 32768 => X (ix2 r j)) i) :
    colMax X (ix1 j) = X (ix2 i j) := by
  have hr : S32768x512.Reduces [0] S512 := by decide
  have e : colMax X = reduceFold hr (fun u v : EReal => max u v) ⊥ X := by
    unfold colMax
    rw [reduce_eq_reduceFold _ _ _ _ hr, constant_ideal, ofBits_bot]
    rfl
  obtain ⟨⟨r, h1⟩, h2⟩ := reduce_max (by decide) hr X j
  rw [← e] at h1 h2
  exact le_antisymm (h1 ▸ hi.top r) (h2 i)

/-- The reference's result at a column: the maximum in the first row, its first row number in the second. -/
theorem refOut_apply (j : Fin 512) : ∃ i : Fin 32768, First (fun r : Fin 32768 => X (ix2 r j)) i
    ∧ refOut X (ix2 (0 : Fin 2) j) = X (ix2 i j) ∧ refOut X (ix2 (1 : Fin 2) j) = ((i.val : ℝ) : EReal) := by
  obtain ⟨i, hi, hp⟩ := argmaxPair_apply X j
  refine ⟨i, hi, ?_, ?_⟩
  · rw [← colMax_apply X j hi]
    unfold refOut
    refine (concatenate_pair_apply_left (t := S2x512) (s₁ := S1x512) (s₂ := S1x512) 0 _ _ _ (ix2 (0 : Fin 2) j) rfl (ix2 (0 : Fin 1) j)
      fun b => by match b with | ⟨0, _⟩ => rfl | ⟨1, _⟩ => rfl).trans ?_
    exact congrArg (colMax X) (funext fun b => by fin_cases b; rfl)
  · have hv : (sitofp .f32 (fun k => (argmaxPair X k).2) : FVec Ideal S512 .f32) (ix1 j) = ((i.val : ℝ) : EReal) := by
      have ht : ((argmaxPair X (ix1 j)).2.toInt : ℝ) = (i.val : ℝ) := by
        rw [congrArg (fun p : EReal × BitVec 32 => p.2.toInt) hp, toInt_row i.val i.isLt]
        exact Int.cast_natCast i.val
      exact (sitofp_ideal _ _).trans (congrArg _ ht)
    rw [← hv]
    unfold refOut
    refine (concatenate_pair_apply_right (t := S2x512) (s₁ := S1x512) (s₂ := S1x512) 0 _ _ _ (ix2 (1 : Fin 2) j) rfl rfl (ix2 (0 : Fin 1) j)
      (fun b hb => by match b with | ⟨0, _⟩ => exact absurd rfl hb | ⟨1, _⟩ => rfl) rfl).trans ?_
    exact congrArg (sitofp .f32 (fun k => (argmaxPair X k).2) : FVec Ideal S512 .f32) (funext fun b => by fin_cases b; rfl)

end Cert.ReferenceIdeal.Plain

end
-- ==== Proof.Value.Block.lean ====
/-
# What a device finds in its block, over the real numbers

At every column the first row a device sends is its block's maximum, and the second the first row number in which it stands,
counted in the whole array.
-/
module

public import proofs.«01_k».proof.Proof.KernelIdeal.Contents
public import proofs.«01_k».proof.Proof.Value.Reference

@[expose] public section

noncomputable section

namespace Cert.KernelIdeal.Exchange

open Cert.KernelIdeal Cert.KernelIdeal.Gen Cert.Columns
open Idealize.ShloMosaic Idealize.ShloMosaic.ValueIdx

/-- The device's number as the kernel computes it is the device's number. -/
theorem vdev_eq (c : Dev nD) : vdev c = BitVec.ofNat 32 c.val := by revert c; decide

/-- The integer minimum picks the smaller of its arguments. -/
theorem picks_minsi : Picks (IntOp.minsi (w := 32)) BitVec.toInt where
  one_of a b := by
    show (if a.slt b then a else b) = a ∨ (if a.slt b then a else b) = b
    split; exacts [.inl rfl, .inr rfl]
  le_left a b := by
    show (if a.slt b then a else b).toInt ≤ a.toInt
    split
    · exact le_rfl
    · rename_i h; simp only [BitVec.slt, decide_eq_true_eq] at h; omega
  le_right a b := by
    show (if a.slt b then a else b).toInt ≤ b.toInt
    split
    · rename_i h; simp only [BitVec.slt, decide_eq_true_eq] at h; omega
    · exact le_rfl

variable (x : Vec Ideal S1024x512 .f32)

/-- The block is read whole. -/
theorem pay1_eq : k0_pay1 x = x := shapeCast_self x _

/-- The maximum of a block's column is one of its values and bounds them. -/
theorem pay2_apply (j : Fin 512) : (∃ r : Fin 1024, k0_pay2 x (ix1 j) = x (ix2 r j)) ∧ ∀ r : Fin 1024, x (ix2 r j) ≤ k0_pay2 x (ix1 j) := by
  have e : k0_pay2 x = reduceFold reduces_S1024x512_S512 (fun u v : EReal => max u v) ⊥ x := by
    show reduceFold reduces_S1024x512_S512 (fun u v : EReal => max u v) (Ideal.ofBits .f32 0xFF800000#32) (k0_pay1 x) = _
    rw [ofBits_bot, pay1_eq]
  rw [e]
  exact reduce_max (by decide) reduces_S1024x512_S512 x j

/-- The row numbers where the column's maximum stands, and a number above them all elsewhere. -/
def marked : IVec S1024x512 32 :=
  select (cmpf .oeq (k0_pay1 x) (broadcastTo S1024x512 (shapeCast S1x512 (k0_pay2 x) shapeCasts_S512_S1x512) broadcasts_S1x512_S1024x512))
    (iota .tc S1024x512 32 [0] iota_S1024x512_d0_w32) (broadcast S1024x512 1024#32)

theorem marked_apply (r : Fin 1024) (j : Fin 512) :
    marked x (ix2 r j) = if x (ix2 r j) = k0_pay2 x (ix1 j) then BitVec.ofNat 32 r.val else 1024#32 := by
  unfold marked
  rw [select_apply, cmpf_apply, pay1_eq, broadcastTo_1b_ab_apply, shapeCast_a_1a_apply, iota_single_apply, broadcast_apply, Ideal.cmpf_def]
  by_cases h : x (ix2 r j) = k0_pay2 x (ix1 j) <;> simp [Ideal.cmp, Scalar.select, h]

/-- The smallest of them is the first row of the column's maximum. -/
theorem first_row (j : Fin 512) : ∃ i : Fin 1024, First (fun r : Fin 1024 => x (ix2 r j)) i ∧ k0_pay2 x (ix1 j) = x (ix2 i j)
    ∧ reduceFold reduces_S1024x512_S512 IntOp.minsi 2147483647#32 (marked x) (ix1 j) = BitVec.ofNat 32 i.val := by
  obtain ⟨h1, -, h3⟩ := picks_minsi.rows reduces_S1024x512_S512 2147483647#32 (marked x) j
  obtain ⟨⟨r₀, e₀⟩, hle⟩ := pay2_apply x j
  generalize reduceFold reduces_S1024x512_S512 IntOp.minsi 2147483647#32 (marked x) (ix1 j) = R at h1 h3 ⊢
  have hb : ∀ r : Fin 1024, x (ix2 r j) = k0_pay2 x (ix1 j) → R.toInt ≤ (r.val : ℤ) := fun r hr => by
    have := h3 r
    rwa [marked_apply, if_pos hr, Cert.ReferenceIdeal.Plain.toInt_row r.val (by omega)] at this
  have h0 := hb r₀ e₀.symm
  rcases h1 with rfl | ⟨i, hi⟩
  · exact absurd h0 (by have : (2147483647#32).toInt = 2147483647 := by decide
                        omega)
  · rw [marked_apply] at hi
    split at hi
    · rename_i hx
      refine ⟨i, ⟨fun r => hx ▸ hle r, fun r hr => ?_⟩, hx.symm, hi⟩
      have := hb r (hr.trans hx)
      rw [hi, Cert.ReferenceIdeal.Plain.toInt_row i.val (by omega)] at this
      exact Fin.le_def.2 (by exact_mod_cast this)
    · rw [hi] at h0
      exact absurd h0 (by have : (1024#32).toInt = 1024 := by decide
                          omega)

/-- The two rows device `c` sends. -/
theorem send_apply (c : Dev nD) (j : Fin 512) : ∃ i : Fin 1024, First (fun r : Fin 1024 => x (ix2 r j)) i
    ∧ k0_pay2 x (ix1 j) = x (ix2 i j) ∧ k0_pay3 (vdev c) x (ix1 j) = (((c.val * 1024 + i.val : ℕ) : ℝ) : EReal) := by
  obtain ⟨i, h1, h2, h3⟩ := first_row x j
  refine ⟨i, h1, h2, ?_⟩
  have hc : c.val < 32 := c.isLt
  have e : k0_pay3 (vdev c) x (ix1 j)
      = (((reduceFold reduces_S1024x512_S512 IntOp.minsi 2147483647#32 (marked x) (ix1 j) + vdev c * 1024#32).toInt : ℝ) : EReal) := rfl
  rw [e, h3, vdev_eq, show BitVec.ofNat 32 i.val + BitVec.ofNat 32 c.val * 1024#32 = BitVec.ofNat 32 (c.val * 1024 + i.val) from by
    rw [BitVec.ofNat_add, BitVec.ofNat_mul, BitVec.add_comm], Cert.ReferenceIdeal.Plain.toInt_row _ (by omega)]
  exact congrArg (fun r : ℝ => (r : EReal)) (Int.cast_natCast _)

end Cert.KernelIdeal.Exchange

end
-- ==== Proof.Value.Combine.lean ====
/-
# How the landed rows are combined, over the real numbers

At every column the kernel's result is the pair of one of the landing slots: one whose maximum is the greatest and whose row number
is the smallest among the slots with that maximum.
-/
module

public import proofs.«01_k».proof.Proof.Value.Block

@[expose] public section

noncomputable section

namespace Cert.KernelIdeal.Exchange

open Cert.KernelIdeal Cert.KernelIdeal.Gen Cert.Columns
open Idealize.ShloMosaic Idealize.ShloMosaic.ValueIdx

variable (v : Vec Ideal S32x2x512 .f32)

/-- One of the two rows of every slot, the slots stacked: the array that the kernel cuts out of the landing buffer. -/
theorem cut_apply (p : Fin 2) (h : S32x2x512.Slices ![0, p.val, 0] S32x1x512) (k : Fin 32) (j : Fin 512) :
    shapeCast S32x512 (extractStridedSlice S32x1x512 ![0, p.val, 0] v h) shapeCasts_S32x1x512_S32x512 (ix2 k j) = v (ix3 k p j) := by
  rw [shapeCast_apply _ _ _ (ix3 k (0 : Fin 1) j) (by
    rw [Shape.rowMajor_val_two, Shape.rowMajor_val_three]
    show (k.val * 1 + 0) * 512 + j.val = k.val * 512 + j.val
    omega)]
  refine extractStridedSlice_apply _ _ _ _ _ fun a => ?_
  match a with
  | ⟨0, _⟩ => exact (Nat.zero_add _).symm
  | ⟨1, _⟩ => rfl
  | ⟨2, _⟩ => exact (Nat.zero_add _).symm

theorem pay8_apply (k : Fin 32) (j : Fin 512) : k0_pay8 v (ix2 k j) = v (ix3 k (0 : Fin 2) j) :=
  cut_apply v 0 slices_S32x2x512_o0_0_0_S32x1x512 k j

/-- The greatest of the slots' maxima. -/
theorem pay9_apply (j : Fin 512) : (∃ k : Fin 32, k0_pay9 v (ix1 j) = v (ix3 k (0 : Fin 2) j))
    ∧ ∀ k : Fin 32, v (ix3 k (0 : Fin 2) j) ≤ k0_pay9 v (ix1 j) := by
  have e : k0_pay9 v = reduceFold reduces_S32x512_S512 (fun a b : EReal => max a b) ⊥ (k0_pay8 v) := by
    show reduceFold reduces_S32x512_S512 (fun a b : EReal => max a b) (Ideal.ofBits .f32 0xFF800000#32) (k0_pay8 v) = _
    rw [ofBits_bot]
  obtain ⟨⟨k, h1⟩, h2⟩ := reduce_max (by decide) reduces_S32x512_S512 (k0_pay8 v) j
  rw [e]
  exact ⟨⟨k, h1.trans (pay8_apply v k j)⟩, fun k => (pay8_apply v k j).ge.trans (h2 k)⟩

/-- The row numbers of the slots that hold the greatest maximum, and a number above them all elsewhere. -/
def candidates : FVec Ideal S32x512 .f32 :=
  select (cmpf .oeq (k0_pay8 v) (broadcastTo S32x512 (shapeCast S1x512 (k0_pay9 v) shapeCasts_S512_S1x512) broadcasts_S1x512_S32x512))
    (shapeCast S32x512 (extractStridedSlice S32x1x512 ![0, 1, 0] v slices_S32x2x512_o0_1_0_S32x1x512) shapeCasts_S32x1x512_S32x512)
    (broadcast S32x512 (Scalar.ofBits .f32 0x7F7FC99E#32))

theorem candidates_apply (k : Fin 32) (j : Fin 512) : candidates v (ix2 k j)
    = if v (ix3 k (0 : Fin 2) j) = k0_pay9 v (ix1 j) then v (ix3 k (1 : Fin 2) j) else Ideal.ofBits .f32 0x7F7FC99E#32 := by
  unfold candidates
  rw [select_apply, cmpf_apply, pay8_apply, broadcastTo_1b_ab_apply, shapeCast_a_1a_apply, Ideal.cmpf_def, broadcast_apply,
    show shapeCast S32x512 (extractStridedSlice S32x1x512 ![0, 1, 0] v slices_S32x2x512_o0_1_0_S32x1x512) shapeCasts_S32x1x512_S32x512
      (ix2 k j) = v (ix3 k (1 : Fin 2) j) from cut_apply v 1 slices_S32x2x512_o0_1_0_S32x1x512 k j]
  by_cases h : v (ix3 k (0 : Fin 2) j) = k0_pay9 v (ix1 j)
  · simp [Ideal.cmp, Scalar.select, h]
  · simp [Ideal.cmp, Scalar.select, h, Scalar.ofBits]

/-- The result at a column, given that the slots' second rows hold row numbers: the pair of one slot, the first by greatest maximum
    and then by smallest row number. -/
theorem combine_apply (j : Fin 512) (hrow : ∀ k : Fin 32, ∃ n : ℕ, n < 32768 ∧ v (ix3 k (1 : Fin 2) j) = ((n : ℝ) : EReal)) :
    ∃ k : Fin 32, k0_pay9 v (ix1 j) = v (ix3 k (0 : Fin 2) j) ∧ k0_pay10 v (ix1 j) = v (ix3 k (1 : Fin 2) j)
      ∧ (∀ l : Fin 32, v (ix3 l (0 : Fin 2) j) ≤ v (ix3 k (0 : Fin 2) j))
      ∧ ∀ l : Fin 32, v (ix3 l (0 : Fin 2) j) = v (ix3 k (0 : Fin 2) j) → v (ix3 k (1 : Fin 2) j) ≤ v (ix3 l (1 : Fin 2) j) := by
  obtain ⟨⟨k₀, e₀⟩, hle⟩ := pay9_apply v j
  have e : k0_pay10 v = reduceFold reduces_S32x512_S512 (fun a b : EReal => min a b) ⊤ (candidates v) := by
    show reduceFold reduces_S32x512_S512 (fun a b : EReal => min a b) (Ideal.ofBits .f32 0x7F800000#32) (candidates v) = _
    rw [ofBits_top]
  obtain ⟨h1, -, h3⟩ := picks_min.rows reduces_S32x512_S512 ⊤ (candidates v) j
  rw [← e] at h1 h3
  simp only [id_eq] at h3
  have hb : ∀ l : Fin 32, v (ix3 l (0 : Fin 2) j) = k0_pay9 v (ix1 j) → k0_pay10 v (ix1 j) ≤ v (ix3 l (1 : Fin 2) j) := fun l hl =>
    (h3 l).trans_eq ((candidates_apply v l j).trans (if_pos hl))
  have hlt : k0_pay10 v (ix1 j) < Ideal.ofBits .f32 0x7F7FC99E#32 := by
    obtain ⟨n, hn, en⟩ := hrow k₀
    exact (hb k₀ e₀.symm).trans_lt (en ▸ row_lt_ofBits n hn)
  rcases h1 with h | ⟨k, h⟩
  · exact absurd hlt (by rw [h]; exact not_top_lt)
  · rw [candidates_apply] at h
    split at h
    · rename_i hk
      exact ⟨k, hk.symm, h, fun l => hk ▸ hle l, fun l hl => h ▸ hb l (hl.trans hk)⟩
    · exact absurd hlt (by rw [h]; exact lt_irrefl _)

end Cert.KernelIdeal.Exchange

end
-- ==== Proof.Value.Same.lean ====
/-
# The kernel's result is the reference's, over the real numbers

Every device holds one of 32 blocks of the reference's array. The first row of each column's maximum, found among the first rows the
blocks yield, is the one the reference finds, so the result on every device is the reference's.
-/
module

public import proofs.«01_k».proof.Proof.Value.Combine
public import proofs.«01_k».proof.Proof.KernelIdeal.Run
public import Idealize.ShloMosaic.Lib.Layout

@[expose] public section

noncomputable section

namespace Cert.KernelIdeal.Exchange

open Cert.KernelIdeal Cert.KernelIdeal.Gen Cert.Columns
open Idealize.ShloMosaic Idealize.ShloMosaic.ValueIdx Idealize.ShloMosaic.TcCoe
open Cert.ReferenceIdeal.Plain (refOut refOut_apply)

variable (m : (ℓ : Loc nD τ sig) → Buf (Elt Ideal) ℓ) (ρ : Dev nD → PrngReg)

/-- Every device is some number of places back from every other. -/
theorem bk_onto (c d : Dev nD) : ∃ k : Fin 32, bk c k.val = d := by
  have hc : c.val < 32 := c.isLt
  have hd : d.val < 32 := d.isLt
  refine ⟨⟨(c.val + 32 - d.val) % 32, Nat.mod_lt _ (by decide)⟩, Fin.ext ?_⟩
  show (c.val + 32 - (c.val + 32 - d.val) % 32) % 32 = d.val
  omega

/-- Row `r` of block `c`, in the whole array. -/
def rowOf (c : Dev nD) (r : Fin 1024) : Fin 32768 := ⟨c.val * 1024 + r.val, by have : c.val < 32 := c.isLt; omega⟩

/-- Every row is in some block. -/
theorem rowOf_onto (r : Fin 32768) : ∃ c r', rowOf c r' = r :=
  ⟨⟨r.val / 1024, by show r.val / 1024 < 32; omega⟩, ⟨r.val % 1024, by omega⟩, Fin.ext (by show r.val / 1024 * 1024 + r.val % 1024 = r.val; omega)⟩

/-- The landing slots' first rows hold the maxima, -/
theorem commAt_max (c : Dev nD) (k : Fin 32) (j : Fin 512) :
    commAt m ρ c (ix3 k (0 : Fin 2) j) = k0_pay2 (xstg m ρ (bk c k.val)) (ix1 j) := rfl

/-- their second rows the row numbers. -/
theorem commAt_row (c : Dev nD) (k : Fin 32) (j : Fin 512) :
    commAt m ρ c (ix3 k (1 : Fin 2) j) = k0_pay3 (vdev (bk c k.val)) (xstg m ρ (bk c k.val)) (ix1 j) := rfl

/-- The reference's array is 32 blocks of rows. -/
theorem tiles : Layout.Tiles ⟨2, ![1024, 512]⟩ ⟨2, ![32768, 512]⟩ 0 32 := by decide

variable (X : FVec Ideal ⟨2, ![32768, 512]⟩ .f32)
  (hX : ∀ c : Dev nD, m ((c.tc : Thread nD τ).loc main_arg0) = Layout.block ⟨2, ![1024, 512]⟩ ⟨2, ![32768, 512]⟩ 0 32 c X tiles)

include hX

/-- A device's block, read in the whole array. -/
theorem xstg_apply (c : Dev nD) (r : Fin 1024) (j : Fin 512) : xstg m ρ c (ix2 r j) = X (ix2 (rowOf c r) j) := by
  rw [xstg_eq]
  refine (congrFun (hX c) (ix2 r j)).trans ?_
  rw [Layout.block_apply]
  refine congrArg X (funext fun a => Fin.ext ?_)
  match a with
  | ⟨0, _⟩ => rfl
  | ⟨1, _⟩ => rfl

/-- The two numbers in a column of the kernel's result: the column's maximum and the first row in which it stands. -/
theorem outAt_apply (c : Dev nD) (j : Fin 512) : ∃ i : Fin 32768, First (fun r : Fin 32768 => X (ix2 r j)) i
    ∧ k0_pay9 (commAt m ρ c) (ix1 j) = X (ix2 i j) ∧ k0_pay10 (commAt m ρ c) (ix1 j) = ((i.val : ℝ) : EReal) := by
  choose i hi hmax hrow using fun d : Dev nD => send_apply (xstg m ρ d) d j
  have hM : ∀ k : Fin 32, commAt m ρ c (ix3 k (0 : Fin 2) j) = X (ix2 (rowOf (bk c k.val) (i (bk c k.val))) j) := fun k =>
    ((commAt_max m ρ c k j).trans (hmax _)).trans (xstg_apply m ρ X hX _ _ j)
  have hR : ∀ k : Fin 32, commAt m ρ c (ix3 k (1 : Fin 2) j) = (((rowOf (bk c k.val) (i (bk c k.val))).val : ℝ) : EReal) := fun k =>
    (commAt_row m ρ c k j).trans (hrow _)
  obtain ⟨k, e9, e10, htop, hle⟩ := combine_apply (commAt m ρ c) j fun k => ⟨_, (rowOf (bk c k.val) (i (bk c k.val))).isLt, hR k⟩
  refine ⟨rowOf (bk c k.val) (i (bk c k.val)), ?_, e9.trans (hM k), e10.trans (hR k)⟩
  refine First.of_blocks _ rowOf (n := 1024) (fun _ _ => rfl) rowOf_onto (i := i) (fun d => ?_) (fun d => ?_) fun d hd => ?_
  · have := hi d
    rwa [show (fun r : Fin 1024 => xstg m ρ d (ix2 r j)) = fun r => X (ix2 (rowOf d r) j) from
      funext fun r => xstg_apply m ρ X hX d r j] at this
  · obtain ⟨l, rfl⟩ := bk_onto c d
    have := htop l
    rwa [hM, hM] at this
  · obtain ⟨l, rfl⟩ := bk_onto c d
    have := hle l (by rw [hM, hM]; exact hd)
    rw [hR, hR, EReal.coe_le_coe_iff] at this
    exact Fin.le_def.2 (by exact_mod_cast this)

/-- On every device the kernel's result is the reference's. -/
theorem outAt_eq (c : Dev nD) : outAt m ρ c = refOut X := by
  have h : ∀ (q : Fin 2) (j : Fin 512), outAt m ρ c (ix2 q j) = refOut X (ix2 q j) := fun q j => by
    obtain ⟨i, hi, e0, e1⟩ := outAt_apply m ρ X hX c j
    obtain ⟨i', hi', e0', e1'⟩ := refOut_apply X j
    obtain rfl := hi.unique hi'
    match q with
    | 0 => exact e0.trans e0'.symm
    | 1 => exact e1.trans e1'.symm
  funext p
  exact (congrArg (outAt m ρ c) (eq_ix2 p)).trans ((h (p 0) (p 1)).trans (congrArg (refOut X) (eq_ix2 p)).symm)

end Cert.KernelIdeal.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelIdeal.Run
public import proofs.«01_k».proof.Proof.KernelIdeal.AsPrinted
public import proofs.«01_k».proof.Proof.Reference.Run
public import proofs.«01_k».proof.Proof.Value.Same
public import Idealize.ShloMosaic.Adequacy
public import Idealize.ShloMosaic.Init

@[expose] public section

noncomputable section

namespace Cert.Proof

open Idealize.ShloMosaic Idealize.SL.Sem Cert.Kernel

/-- Over the real numbers, from blocks of one array, the kernel leaves on every device what the reference leaves. -/
theorem same_value : Cert.algebraic_KernelIdeal_ReferenceIdeal := by
  intro m g m' g' _ hX
  refine ⟨Cert.ReferenceIdeal.Plain.refOut (F := Ideal) (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun _ h c => ⟨(h c).1.trans (Cert.KernelIdeal.Exchange.outAt_eq m g _ hX c), (h c).2⟩)
      (Cert.KernelIdeal.Exchange.run_value m g)
  · exact (θ_run Cert.ReferenceIdeal.defs _ _).mono (fun _ h => h 0) (Cert.ReferenceIdeal.Plain.run_value m' g')

/-- All the claims. -/
theorem claim : Cert.Claim := ⟨Cert.Kernel.Gen.facts, Cert.KernelIdeal.Gen.facts, Cert.ReferenceIdeal.Gen.facts,
  fun m g _ => Cert.KernelIdeal.Exchange.printed_frame m g,
  fun m g _ => Cert.KernelIdeal.Exchange.run_frame m g,
  fun m g _ => Cert.ReferenceIdeal.Plain.run_frame m g,
  trivial,
  same_value⟩

end Cert.Proof

end
